-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0)
      ∧ r.2.mem ((c.tc : Thread Cert.QuantX.nD Cert.QuantX.τ).loc Cert.QuantX.main_arg1) = m ((c.tc : Thread Cert.QuantX.nD Cert.QuantX.τ).loc Cert.QuantX.main_arg1))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_QuantX_QuantXIdeal : Prop :=
  True

def algebraic_QuantXIdeal_QuantReferenceIdeal [hQuantXIdeal : Cert.QuantXIdeal.Facts] [hQuantReferenceIdeal : Cert.QuantReferenceIdeal.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantXIdeal m →
    (∀ c : Dev Cert.QuantXIdeal.nD,
      m' ((c.tc : Thread Cert.QuantReferenceIdeal.nD Cert.QuantReferenceIdeal.τ).loc Cert.QuantReferenceIdeal.main_arg0) = m ((c.tc : Thread Cert.QuantXIdeal.nD Cert.QuantXIdeal.τ).loc Cert.QuantXIdeal.main_arg0)
      ∧ m' ((c.tc : Thread Cert.QuantReferenceIdeal.nD Cert.QuantReferenceIdeal.τ).loc Cert.QuantReferenceIdeal.main_arg1) = m ((c.tc : Thread Cert.QuantXIdeal.nD Cert.QuantXIdeal.τ).loc Cert.QuantXIdeal.main_arg1)) →
    ∃ (v0 : (c : Dev Cert.QuantXIdeal.nD) → Buf (Elt Ideal) ((c.tc : Thread Cert.QuantXIdeal.nD Cert.QuantXIdeal.τ).loc Cert.QuantXIdeal.main_v15_0)) (v1 : (c : Dev Cert.QuantXIdeal.nD) → Buf (Elt Ideal) ((c.tc : Thread Cert.QuantXIdeal.nD Cert.QuantXIdeal.τ).loc Cert.QuantXIdeal.main_v15_1)) (v2 : (c : Dev Cert.QuantXIdeal.nD) → Buf (Elt Ideal) ((c.tc : Thread Cert.QuantXIdeal.nD Cert.QuantXIdeal.τ).loc Cert.QuantXIdeal.main_v15_2)) (v3 : (c : Dev Cert.QuantXIdeal.nD) → Buf (Elt Ideal) ((c.tc : Thread Cert.QuantXIdeal.nD Cert.QuantXIdeal.τ).loc Cert.QuantXIdeal.main_v15_3)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v15_0) = v0 c
          ∧ r.2.mem ((c.tc : Thread Cert.QuantXIdeal.nD Cert.QuantXIdeal.τ).loc Cert.QuantXIdeal.main_v15_1) = v1 c
          ∧ r.2.mem ((c.tc : Thread Cert.QuantXIdeal.nD Cert.QuantXIdeal.τ).loc Cert.QuantXIdeal.main_v15_2) = v2 c
          ∧ r.2.mem ((c.tc : Thread Cert.QuantXIdeal.nD Cert.QuantXIdeal.τ).loc Cert.QuantXIdeal.main_v15_3) = v3 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
          ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v15_0) = v0 c
          ∧ r.2.mem ((c.tc : Thread Cert.QuantReferenceIdeal.nD Cert.QuantReferenceIdeal.τ).loc Cert.QuantReferenceIdeal.main_v15_1) = v1 c
          ∧ r.2.mem ((c.tc : Thread Cert.QuantReferenceIdeal.nD Cert.QuantReferenceIdeal.τ).loc Cert.QuantReferenceIdeal.main_v15_2) = v2 c
          ∧ r.2.mem ((c.tc : Thread Cert.QuantReferenceIdeal.nD Cert.QuantReferenceIdeal.τ).loc Cert.QuantReferenceIdeal.main_v15_3) = v3 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1))

def Claim : Prop :=
  ∃ (hKernel : Cert.Kernel.Facts) (hKernelIdeal : Cert.KernelIdeal.Facts) (hReferenceIdeal : Cert.ReferenceIdeal.Facts) (hQuantX : Cert.QuantX.Facts) (hQuantXIdeal : Cert.QuantXIdeal.Facts) (hQuantReferenceIdeal : Cert.QuantReferenceIdeal.Facts),
    quiescent_Kernel (hKernel := hKernel)
    ∧ quiescent_KernelIdeal (hKernelIdeal := hKernelIdeal)
    ∧ quiescent_ReferenceIdeal (hReferenceIdeal := hReferenceIdeal)
    ∧ quiescent_QuantX (hQuantX := hQuantX)
    ∧ quiescent_QuantXIdeal (hQuantXIdeal := hQuantXIdeal)
    ∧ quiescent_QuantReferenceIdeal (hQuantReferenceIdeal := hQuantReferenceIdeal)
    ∧ preserves_Kernel_KernelIdeal
    ∧ algebraic_KernelIdeal_ReferenceIdeal (hKernelIdeal := hKernelIdeal) (hReferenceIdeal := hReferenceIdeal)
    ∧ preserves_QuantX_QuantXIdeal
    ∧ algebraic_QuantXIdeal_QuantReferenceIdeal (hQuantXIdeal := hQuantXIdeal) (hQuantReferenceIdeal := hQuantReferenceIdeal)
-- ==== Kernel.lean ====
abbrev S2x4096x18432 : Shape := ⟨3, ![2, 4096, 18432]⟩
abbrev S2x4096x208 : Shape := ⟨3, ![2, 4096, 208]⟩
abbrev S208x7168 : Shape := ⟨2, ![208, 7168]⟩
abbrev S18432x7168 : Shape := ⟨2, ![18432, 7168]⟩
abbrev S144x56 : Shape := ⟨2, ![144, 56]⟩
abbrev S7168 : Shape := ⟨1, ![7168]⟩
abbrev S2x4096x7168 : Shape := ⟨3, ![2, 4096, 7168]⟩
abbrev S8192x18432 : Shape := ⟨2, ![8192, 18432]⟩
abbrev S8192x208 : Shape := ⟨2, ![8192, 208]⟩
abbrev S_ : Shape := ⟨0, ![]⟩
abbrev S8192x256 : Shape := ⟨2, ![8192, 256]⟩
abbrev S8192x7168 : Shape := ⟨2, ![8192, 7168]⟩
abbrev S256x7168 : Shape := ⟨2, ![256, 7168]⟩
abbrev S1x7168 : Shape := ⟨2, ![1, 7168]⟩
abbrev S14x8192x4 : Shape := ⟨3, ![14, 8192, 4]⟩
abbrev S1024x2048 : Shape := ⟨2, ![1024, 2048]⟩
abbrev S1024x256 : Shape := ⟨2, ![1024, 256]⟩
abbrev S2048x512 : Shape := ⟨2, ![2048, 512]⟩
abbrev S256x512 : Shape := ⟨2, ![256, 512]⟩
abbrev S1x512 : Shape := ⟨2, ![1, 512]⟩
abbrev S1024x512 : Shape := ⟨2, ![1024, 512]⟩
abbrev S1x1024x4 : Shape := ⟨3, ![1, 1024, 4]⟩
abbrev S1x1 : Shape := ⟨2, ![1, 1]⟩
abbrev S128x128 : Shape := ⟨2, ![128, 128]⟩
abbrev S2048x128 : Shape := ⟨2, ![2048, 128]⟩
abbrev S1024x4 : Shape := ⟨2, ![1024, 4]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩

abbrev nBuf : Space → Nat
  | .hbm => 20
  | .vmem => 19
  | .smem => 1
  | _ => 0

abbrev bufTy : (tb : Table) → Fin (tcTables nBuf tb) → BufTy
  | .hbm, ⟨0, _⟩ => ⟨S2x4096x18432, .bf16⟩
  | .hbm, ⟨1, _⟩ => ⟨S2x4096x208, .bf16⟩
  | .hbm, ⟨2, _⟩ => ⟨S208x7168, .bf16⟩
  | .hbm, ⟨3, _⟩ => ⟨S18432x7168, .fp8e4m3⟩
  | .hbm, ⟨4, _⟩ => ⟨S144x56, .f32⟩
  | .hbm, ⟨5, _⟩ => ⟨S7168, .f32⟩
  | .hbm, ⟨6, _⟩ => ⟨S2x4096x7168, .bf16⟩
  | .hbm, ⟨7, _⟩ => ⟨S8192x18432, .bf16⟩
  | .hbm, ⟨8, _⟩ => ⟨S8192x208, .bf16⟩
  | .hbm, ⟨9, _⟩ => ⟨S_, .i32⟩
  | .hbm, ⟨10, _⟩ => ⟨S_, .bf16⟩
  | .hbm, ⟨11, _⟩ => ⟨S8192x256, .bf16⟩
  | .hbm, ⟨12, _⟩ => ⟨S8192x7168, .bf16⟩
  | .hbm, ⟨13, _⟩ => ⟨S_, .i32⟩
  | .hbm, ⟨14, _⟩ => ⟨S_, .bf16⟩
  | .hbm, ⟨15, _⟩ => ⟨S256x7168, .bf16⟩
  | .hbm, ⟨16, _⟩ => ⟨S1x7168, .f32⟩
  | .hbm, ⟨17, _⟩ => ⟨S8192x7168, .bf16⟩
  | .hbm, ⟨18, _⟩ => ⟨S8192x7168, .fp8e4m3⟩
  | .hbm, ⟨19, _⟩ => ⟨S14x8192x4, .f32⟩
  | .local _ .vmem, ⟨0, _⟩ => ⟨S1024x2048, .bf16⟩
  | .local _ .vmem, ⟨1, _⟩ => ⟨S1024x2048, .bf16⟩
  | .local _ .vmem, ⟨2, _⟩ => ⟨S1024x256, .bf16⟩
  | .local _ .vmem, ⟨3, _⟩ => ⟨S1024x256, .bf16⟩
  | .local _ .vmem, ⟨4, _⟩ => ⟨S2048x512, .fp8e4m3⟩
  | .local _ .vmem, ⟨5, _⟩ => ⟨S2048x512, .fp8e4m3⟩
  | .local _ .vmem, ⟨6, _⟩ => ⟨S256x512, .bf16⟩
  | .local _ .vmem, ⟨7, _⟩ => ⟨S256x512, .bf16⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .fp8e4m3⟩
  | .local _ .vmem, ⟨15, _⟩ => ⟨S1024x512, .fp8e4m3⟩
  | .local _ .vmem, ⟨16, _⟩ => ⟨S1x1024x4, .f32⟩
  | .local _ .vmem, ⟨17, _⟩ => ⟨S1x1024x4, .f32⟩
  | .local _ .vmem, ⟨18, _⟩ => ⟨S1024x512, .f32⟩
  | .local _ .smem, ⟨0, _⟩ => ⟨S144x56, .f32⟩
  | _, _ => ⟨S2x4096x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![8, 14, 9], ![false, false, false]⟩

def k0_off1 (i : grid0.Coords) (c0_i32_1 : BitVec 32) (c0_i32_2 : BitVec 32) : Fin 2 → Nat :=
  let arg2 : BitVec 32 := BitVec.ofNat 32 (i 2).val
  let c16_i32 : BitVec 32 := 16#32
  let v3 : BitVec 32 := Scalar.muli arg2 c16_i32
  let v4 : BitVec 32 := Scalar.addi v3 c0_i32_1
  let v7 : Index := Scalar.indexCast v4
  let arg1 : BitVec 32 := BitVec.ofNat 32 (i 1).val
  let c4_i32 : BitVec 32 := 4#32
  let v5 : BitVec 32 := Scalar.muli arg1 c4_i32
  let v6 : BitVec 32 := Scalar.addi v5 c0_i32_2
  let v8 : Index := Scalar.indexCast v6
  ![v7.toNat, v8.toNat]
def k0_cond2 (i : grid0.Coords) : BitVec 1 :=
  let arg2 : BitVec 32 := BitVec.ofNat 32 (i 2).val
  let c8_i32_359 : BitVec 32 := 8#32
  let v784 : BitVec 1 := Scalar.cmpi .eq arg2 c8_i32_359
  let v785 : BitVec 32 := Scalar.extui v784
  let c0_i32_360 : BitVec 32 := 0#32
  let v786 : BitVec 1 := Scalar.cmpi .ne v785 c0_i32_360
  v786

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .smem S144x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1024x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S2x4096x18432 : Shape := ⟨3, ![2, 4096, 18432]⟩
abbrev S2x4096x208 : Shape := ⟨3, ![2, 4096, 208]⟩
abbrev S208x7168 : Shape := ⟨2, ![208, 7168]⟩
abbrev S18432x7168 : Shape := ⟨2, ![18432, 7168]⟩
abbrev S144x56 : Shape := ⟨2, ![144, 56]⟩
abbrev S7168 : Shape := ⟨1, ![7168]⟩
abbrev S2x4096x7168 : Shape := ⟨3, ![2, 4096, 7168]⟩
abbrev S8192x18432 : Shape := ⟨2, ![8192, 18432]⟩
abbrev S8192x208 : Shape := ⟨2, ![8192, 208]⟩
abbrev S1x7168 : Shape := ⟨2, ![1, 7168]⟩
abbrev S8192x7168 : Shape := ⟨2, ![8192, 7168]⟩
abbrev S14x8192x4 : Shape := ⟨3, ![14, 8192, 4]⟩
abbrev S144x128x56x128 : Shape := ⟨4, ![144, 128, 56, 128]⟩
abbrev S144x1x56x1 : Shape := ⟨4, ![144, 1, 56, 1]⟩
abbrev S8192x56x128 : Shape := ⟨3, ![8192, 56, 128]⟩
abbrev S8192x56 : Shape := ⟨2, ![8192, 56]⟩
abbrev S8192x56x1 : Shape := ⟨3, ![8192, 56, 1]⟩
abbrev S8192x14x4 : Shape := ⟨3, ![8192, 14, 4]⟩

abbrev nBuf : Space → Nat
  | .hbm => 14
  | .vmem => 10
  | .smem => 0
  | _ => 0

abbrev bufTy : (tb : Table) → Fin (tcTables nBuf tb) → BufTy
  | .hbm, ⟨0, _⟩ => ⟨S2x4096x18432, .bf16⟩
  | .hbm, ⟨1, _⟩ => ⟨S2x4096x208, .bf16⟩
  | .hbm, ⟨2, _⟩ => ⟨S208x7168, .bf16⟩
  | .hbm, ⟨3, _⟩ => ⟨S18432x7168, .fp8e4m3⟩
  | .hbm, ⟨4, _⟩ => ⟨S144x56, .f32⟩
  | .hbm, ⟨5, _⟩ => ⟨S7168, .f32⟩
  | .hbm, ⟨6, _⟩ => ⟨S2x4096x7168, .bf16⟩
  | .hbm, ⟨7, _⟩ => ⟨S8192x18432, .bf16⟩
  | .hbm, ⟨8, _⟩ => ⟨S8192x208, .bf16⟩
  | .hbm, ⟨9, _⟩ => ⟨S1x7168, .f32⟩
  | .hbm, ⟨10, _⟩ => ⟨S8192x7168, .bf16⟩
  | .hbm, ⟨11, _⟩ => ⟨S8192x7168, .bf16⟩
  | .hbm, ⟨12, _⟩ => ⟨S8192x7168, .fp8e4m3⟩
  | .hbm, ⟨13, _⟩ => ⟨S14x8192x4, .f32⟩
  | .local _ .vmem, ⟨0, _⟩ => ⟨S8192x18432, .bf16⟩
  | .local _ .vmem, ⟨1, _⟩ => ⟨S8192x208, .bf16⟩
  | .local _ .vmem, ⟨2, _⟩ => ⟨S208x7168, .bf16⟩
  | .local _ .vmem, ⟨3, _⟩ => ⟨S18432x7168, .fp8e4m3⟩
  | .local _ .vmem, ⟨4, _⟩ => ⟨S144x56, .f32⟩
  | .local _ .vmem, ⟨5, _⟩ => ⟨S1x7168, .f32⟩
  | .local _ .vmem, ⟨6, _⟩ => ⟨S8192x7168, .bf16⟩
  | .local _ .vmem, ⟨7, _⟩ => ⟨S8192x7168, .bf16⟩
  | .local _ .vmem, ⟨8, _⟩ => ⟨S8192x7168, .fp8e4m3⟩
  | .local _ .vmem, ⟨9, _⟩ => ⟨S14x8192x4, .f32⟩
  | _, _ => ⟨S2x4096x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "inv448" => some ((1 / 448 : ℝ) : EReal)
  | "ln2" => some ((Real.log 2 : ℝ) : EReal)
  | _ => none

abbrev grid0 : Pipeline.Grid := .none

abbrev stage0_0 : Fin 1 → Memref sig .tc .vmem S8192x18432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x208 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S208x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S144x56 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S14x8192x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== QuantX.lean ====
abbrev S2x4096x18432 : Shape := ⟨3, ![2, 4096, 18432]⟩
abbrev S208 : Shape := ⟨1, ![208]⟩
abbrev S8192x18432 : Shape := ⟨2, ![8192, 18432]⟩
abbrev S_ : Shape := ⟨0, ![]⟩
abbrev S256 : Shape := ⟨1, ![256]⟩
abbrev S1 : Shape := ⟨1, ![1]⟩
abbrev S2x128 : Shape := ⟨2, ![2, 128]⟩
abbrev S18432 : Shape := ⟨1, ![18432]⟩
abbrev S208x1 : Shape := ⟨2, ![208, 1]⟩
abbrev S144x128 : Shape := ⟨2, ![144, 128]⟩
abbrev S8192x144 : Shape := ⟨2, ![8192, 144]⟩
abbrev S8192x256 : Shape := ⟨2, ![8192, 256]⟩
abbrev S64x18432 : Shape := ⟨2, ![64, 18432]⟩
abbrev S64x144 : Shape := ⟨2, ![64, 144]⟩
abbrev S64x256 : Shape := ⟨2, ![64, 256]⟩
abbrev S64x128 : Shape := ⟨2, ![64, 128]⟩
abbrev S1x128 : Shape := ⟨2, ![1, 128]⟩
abbrev S64 : Shape := ⟨1, ![64]⟩
abbrev S64x1 : Shape := ⟨2, ![64, 1]⟩
abbrev S64x128x1 : Shape := ⟨3, ![64, 128, 1]⟩

abbrev nBuf : Space → Nat
  | .hbm => 27
  | .vmem => 12
  | .smem => 0
  | _ => 0

abbrev bufTy : (tb : Table) → Fin (tcTables nBuf tb) → BufTy
  | .hbm, ⟨0, _⟩ => ⟨S2x4096x18432, .bf16⟩
  | .hbm, ⟨1, _⟩ => ⟨S208, .i32⟩
  | .hbm, ⟨2, _⟩ => ⟨S8192x18432, .bf16⟩
  | .hbm, ⟨3, _⟩ => ⟨S_, .i32⟩
  | .hbm, ⟨4, _⟩ => ⟨S256, .i32⟩
  | .hbm, ⟨5, _⟩ => ⟨S_, .i32⟩
  | .hbm, ⟨6, _⟩ => ⟨S1, .i32⟩
  | .hbm, ⟨7, _⟩ => ⟨S256, .i32⟩
  | .hbm, ⟨8, _⟩ => ⟨S2x128, .i32⟩
  | .hbm, ⟨9, _⟩ => ⟨S_, .i32⟩
  | .hbm, ⟨10, _⟩ => ⟨S18432, .i32⟩
  | .hbm, ⟨11, _⟩ => ⟨S_, .i32⟩
  | .hbm, ⟨12, _⟩ => ⟨S208, .i32⟩
  | .hbm, ⟨13, _⟩ => ⟨S208, .i1⟩
  | .hbm, ⟨14, _⟩ => ⟨S_, .i32⟩
  | .hbm, ⟨15, _⟩ => ⟨S208, .i32⟩
  | .hbm, ⟨16, _⟩ => ⟨S208, .i32⟩
  | .hbm, ⟨17, _⟩ => ⟨S208, .i32⟩
  | .hbm, ⟨18, _⟩ => ⟨S208x1, .i32⟩
  | .hbm, ⟨19, _⟩ => ⟨S_, .i32⟩
  | .hbm, ⟨20, _⟩ => ⟨S208, .i32⟩
  | .hbm, ⟨21, _⟩ => ⟨S18432, .i32⟩
  | .hbm, ⟨22, _⟩ => ⟨S144x128, .i32⟩
  | .hbm, ⟨23, _⟩ => ⟨S8192x18432, .fp8e4m3⟩
  | .hbm, ⟨24, _⟩ => ⟨S8192x144, .f32⟩
  | .hbm, ⟨25, _⟩ => ⟨S8192x18432, .bf16⟩
  | .hbm, ⟨26, _⟩ => ⟨S8192x256, .bf16⟩
  | .local _ .vmem, ⟨0, _⟩ => ⟨S64x18432, .bf16⟩
  | .local _ .vmem, ⟨1, _⟩ => ⟨S64x18432, .bf16⟩
  | .local _ .vmem, ⟨2, _⟩ => ⟨S144x128, .i32⟩
  | .local _ .vmem, ⟨3, _⟩ => ⟨S2x128, .i32⟩
  | .local _ .vmem, ⟨4, _⟩ => ⟨S64x18432, .fp8e4m3⟩
  | .local _ .vmem, ⟨5, _⟩ => ⟨S64x18432, .fp8e4m3⟩
  | .local _ .vmem, ⟨6, _⟩ => ⟨S64x144, .f32⟩
  | .local _ .vmem, ⟨7, _⟩ => ⟨S64x144, .f32⟩
  | .local _ .vmem, ⟨8, _⟩ => ⟨S64x18432, .bf16⟩
  | .local _ .vmem, ⟨9, _⟩ => ⟨S64x18432, .bf16⟩
  | .local _ .vmem, ⟨10, _⟩ => ⟨S64x256, .bf16⟩
  | .local _ .vmem, ⟨11, _⟩ => ⟨S64x256, .bf16⟩
  | _, _ => ⟨S2x4096x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c144_i32 : BitVec 32 := 144#32
  let v5 : BitVec 32 := Scalar.addi c0_i32 c144_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v6 : BitVec 32 := Scalar.muli arg8 c128_i32
  v6
def k0_off1 (k0_t1 : Fin k0_t1_loop.trips) : Fin 2 → Nat :=
  let c0_5 : Index := 0#32
  let c0_i32 : BitVec 32 := 0#32
  let c1_i32 : BitVec 32 := 1#32
  let arg8 : BitVec 32 := Scf.iv c0_i32 c1_i32 k0_t1
  let c128_i32 : BitVec 32 := 128#32
  let v6 : BitVec 32 := Scalar.muli arg8 c128_i32
  let v7 : BitVec 32 := v6
  let v8 : Index := Scalar.indexCast v7
  ![0, v8.toNat]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let v11 : Index := Scalar.indexCast arg8
  let c0_6 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x18432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x18432 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x18432 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QuantReferenceIdeal.lean ====
abbrev S2x4096x18432 : Shape := ⟨3, ![2, 4096, 18432]⟩
abbrev S208 : Shape := ⟨1, ![208]⟩
abbrev S_ : Shape := ⟨0, ![]⟩
abbrev S18432 : Shape := ⟨1, ![18432]⟩
abbrev S208x1 : Shape := ⟨2, ![208, 1]⟩
abbrev S256 : Shape := ⟨1, ![256]⟩
abbrev S1 : Shape := ⟨1, ![1]⟩
abbrev S8192x18432 : Shape := ⟨2, ![8192, 18432]⟩
abbrev S1x18432 : Shape := ⟨2, ![1, 18432]⟩
abbrev S1x256 : Shape := ⟨2, ![1, 256]⟩
abbrev S8192x144 : Shape := ⟨2, ![8192, 144]⟩
abbrev S8192x256 : Shape := ⟨2, ![8192, 256]⟩
abbrev S8192x144x128 : Shape := ⟨3, ![8192, 144, 128]⟩
abbrev S8192x144x1 : Shape := ⟨3, ![8192, 144, 1]⟩
abbrev S18432x256 : Shape := ⟨2, ![18432, 256]⟩

abbrev nBuf : Space → Nat
  | .hbm => 27
  | .vmem => 7
  | .smem => 0
  | _ => 0

abbrev bufTy : (tb : Table) → Fin (tcTables nBuf tb) → BufTy
  | .hbm, ⟨0, _⟩ => ⟨S2x4096x18432, .bf16⟩
  | .hbm, ⟨1, _⟩ => ⟨S208, .i32⟩
  | .hbm, ⟨2, _⟩ => ⟨S_, .i32⟩
  | .hbm, ⟨3, _⟩ => ⟨S18432, .i32⟩
  | .hbm, ⟨4, _⟩ => ⟨S_, .i32⟩
  | .hbm, ⟨5, _⟩ => ⟨S208, .i32⟩
  | .hbm, ⟨6, _⟩ => ⟨S208, .i1⟩
  | .hbm, ⟨7, _⟩ => ⟨S_, .i32⟩
  | .hbm, ⟨8, _⟩ => ⟨S208, .i32⟩
  | .hbm, ⟨9, _⟩ => ⟨S208, .i32⟩
  | .hbm, ⟨10, _⟩ => ⟨S208, .i32⟩
  | .hbm, ⟨11, _⟩ => ⟨S208x1, .i32⟩
  | .hbm, ⟨12, _⟩ => ⟨S_, .i32⟩
  | .hbm, ⟨13, _⟩ => ⟨S208, .i32⟩
  | .hbm, ⟨14, _⟩ => ⟨S18432, .i32⟩
  | .hbm, ⟨15, _⟩ => ⟨S_, .i32⟩
  | .hbm, ⟨16, _⟩ => ⟨S256, .i32⟩
  | .hbm, ⟨17, _⟩ => ⟨S_, .i32⟩
  | .hbm, ⟨18, _⟩ => ⟨S1, .i32⟩
  | .hbm, ⟨19, _⟩ => ⟨S256, .i32⟩
  | .hbm, ⟨20, _⟩ => ⟨S8192x18432, .bf16⟩
  | .hbm, ⟨21, _⟩ => ⟨S1x18432, .i32⟩
  | .hbm, ⟨22, _⟩ => ⟨S1x256, .i32⟩
  | .hbm, ⟨23, _⟩ => ⟨S8192x18432, .fp8e4m3⟩
  | .hbm, ⟨24, _⟩ => ⟨S8192x144, .f32⟩
  | .hbm, ⟨25, _⟩ => ⟨S8192x18432, .bf16⟩
  | .hbm, ⟨26, _⟩ => ⟨S8192x256, .bf16⟩
  | .local _ .vmem, ⟨0, _⟩ => ⟨S8192x18432, .bf16⟩
  | .local _ .vmem, ⟨1, _⟩ => ⟨S1x18432, .i32⟩
  | .local _ .vmem, ⟨2, _⟩ => ⟨S1x256, .i32⟩
  | .local _ .vmem, ⟨3, _⟩ => ⟨S8192x18432, .fp8e4m3⟩
  | .local _ .vmem, ⟨4, _⟩ => ⟨S8192x144, .f32⟩
  | .local _ .vmem, ⟨5, _⟩ => ⟨S8192x18432, .bf16⟩
  | .local _ .vmem, ⟨6, _⟩ => ⟨S8192x256, .bf16⟩
  | _, _ => ⟨S2x4096x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_c_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv448" => some ((1 / 448 : ℝ) : EReal)
  | "ln2" => some ((Real.log 2 : ℝ) : EReal)
  | _ => none

abbrev grid0 : Pipeline.Grid := .none

abbrev stage0_0 : Fin 1 → Memref sig .tc .vmem S8192x18432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x18432 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x18432 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x18432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.QfRun.lean ====
module
public import proofs.«01_k».proof.Proof.Gen.QuantX.Frame.Runs
@[expose] public section
-- membership in a rectangle of production extents (`View.cover_of_tiled`): the elaborator's structural look
-- recurses once per coordinate of the long axes
set_option maxRecDepth 16384

noncomputable section

namespace Cert.QuantX.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxRecDepth 16384 in
set_option maxHeartbeats 1000000 in
/-- What a trip of the loop writes does not read the codes or the dequantised values found in their buffers. -/
theorem trip_indep (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole) (v0 : IVec S64x144 32) (X_arg1 : BufTy.Contents (Elt F) arg1.view.ty) (X_arg2 : BufTy.Contents (Elt F) arg2.view.ty) (X_arg3 : BufTy.Contents (Elt F) arg3.view.ty) (k : Fin k0_t1_loop.trips) (f4 g4 f5 f6 g6 f7) :
  tripL_k0_t1 (F := F) Variants.none c none i arg1 harg1 arg2 harg2 arg3 harg3 arg4 harg4 arg5 harg5 arg6 harg6 arg7 harg7 v0 X_arg1 X_arg2 X_arg3 k f4 f5 f6 f7 = tripL_k0_t1 (F := F) Variants.none c none i arg1 harg1 arg2 harg2 arg3 harg3 arg4 harg4 arg5 harg5 arg6 harg6 arg7 harg7 v0 X_arg1 X_arg2 X_arg3 k g4 f5 g6 f7 := by
  unfold tripL_k0_t1 trip_k0_t1
  rfl

/-- So what the loop writes does not depend on what those two buffers hold before it. -/
theorem pb_indep (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole) (v0 : IVec S64x144 32) (X_arg1 : BufTy.Contents (Elt F) arg1.view.ty) (X_arg2 : BufTy.Contents (Elt F) arg2.view.ty) (X_arg3 : BufTy.Contents (Elt F) arg3.view.ty) (f4 g4 f5 f6 g6 f7) (n : ℕ) :
  pb_k0_t1 (F := F) Variants.none c none i arg1 harg1 arg2 harg2 arg3 harg3 arg4 harg4 arg5 harg5 arg6 harg6 arg7 harg7 v0 X_arg1 X_arg2 X_arg3 f4 f5 f6 f7 n = pb_k0_t1 (F := F) Variants.none c none i arg1 harg1 arg2 harg2 arg3 harg3 arg4 harg4 arg5 harg5 arg6 harg6 arg7 harg7 v0 X_arg1 X_arg2 X_arg3 g4 f5 g6 f7 n := by
  induction n with
  | zero => rfl
  | succ n ih =>
    by_cases h : n < k0_t1_loop.trips
    · have e := pb_k0_t1_succ (F := F) Variants.none c none i arg1 harg1 arg2 harg2 arg3 harg3 arg4 harg4 arg5 harg5 arg6 harg6 arg7 harg7 v0 X_arg1 X_arg2 X_arg3 f4 f5 f6 f7 ⟨n, h⟩
      have e' := pb_k0_t1_succ (F := F) Variants.none c none i arg1 harg1 arg2 harg2 arg3 harg3 arg4 harg4 arg5 harg5 arg6 harg6 arg7 harg7 v0 X_arg1 X_arg2 X_arg3 g4 f5 g6 f7 ⟨n, h⟩
      dsimp only at e e'
      rw [e, e', ih]
      generalize pb_k0_t1 (F := F) Variants.none c none i arg1 harg1 arg2 harg2 arg3 harg3 arg4 harg4 arg5 harg5 arg6 harg6 arg7 harg7 v0 X_arg1 X_arg2 X_arg3 g4 f5 g6 f7 n = Q
      have q := trip_indep c i arg1 harg1 arg2 harg2 arg3 harg3 arg4 harg4 arg5 harg5 arg6 harg6 arg7 harg7 v0 X_arg1 X_arg2 X_arg3 ⟨n, h⟩
        (arg4.view.writes (Elt F) f4 Q.1) (arg4.view.writes (Elt F) g4 Q.1) (arg5.view.writes (Elt F) f5 Q.2.1)
        (arg6.view.writes (Elt F) f6 Q.2.2.1) (arg6.view.writes (Elt F) g6 Q.2.2.1) (arg7.view.writes (Elt F) f7 Q.2.2.2)
      exact congrArg (fun T : List (View.Piece (Elt F) S64x18432 .fp8e4m3) × List (View.Piece (Elt F) S64x144 .f32) × List (View.Piece (Elt F) S64x18432 .bf16) × List (View.Piece (Elt F) S64x256 .bf16) =>
        (T.1 ++ Q.1, T.2.1 ++ Q.2.1, T.2.2.1 ++ Q.2.2.1, T.2.2.2 ++ Q.2.2.2)) q
    · rw [pb_k0_t1.eq_2, pb_k0_t1.eq_2]
      unfold pb_k0_t1Step
      rw [dif_neg h, dif_neg h, ih]

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) :
    Σ' (L3 : List (View.Piece (Elt F) S64x18432 .fp8e4m3)), Σ' (L4 : List (View.Piece (Elt F) S64x144 .f32)), Σ' (L5 : List (View.Piece (Elt F) S64x18432 .bf16)), { L6 : List (View.Piece (Elt F) S64x256 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0_quant_x i arg1 harg1 arg2 harg2 arg3 harg3 arg4 harg4 arg5 harg5 arg6 harg6 arg7 harg7) K } := by
  refine ⟨?_, ?_, ?_, ?_, fun E K => ?run⟩
  case run =>
    simp only [cc0_quant_x_eq_skeleton]; unfold cc0_quant_x_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    sl_exec
    sl_step
    rw [pb_indep c i arg1 harg1 arg2 harg2 arg3 harg3 arg4 harg4 arg5 harg5 arg6 harg6 arg7 harg7 _ _ _ _ f3 arg4.view.junk _ f5 arg6.view.junk _ _]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact H6

end Cert.QuantX.Gen
end
-- ==== Proof.QfFrame.lean ====
/- The frame of `QuantX`: what each output block holds after a grid point, and the run of the program, from the run of the body in QfRun.lean. -/
module

public import proofs.«01_k».proof.Proof.QfRun
public import Idealize.ShloMosaic.Lib.Claim

@[expose] public section

-- membership in a rectangle of production extents (`View.cover_of_tiled`): the elaborator's structural look
-- recurses once per coordinate of the long axes
set_option maxRecDepth 16384

noncomputable section

namespace Cert.QuantX.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The run's pieces for output 3 tile its block (144 stores of `S64x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) (y : S64x18432.Idx) :
    ∃ pc ∈ (kernelRun0_A c i arg1 harg1 arg2 harg2 arg3 harg3 arg4 harg4 arg5 harg5 arg6 harg6 arg7 harg7 x0 x1 x2).1, y ∈ pc.1.set :=
  View.cover_of_tiledL (kernelRun0_A c i arg1 harg1 arg2 harg2 arg3 harg3 arg4 harg4 arg5 harg5 arg6 harg6 arg7 harg7 x0 x1 x2).1 S64x128.size (by sl_kernel_rfl) y

/-- What the run leaves in output 3's staging buffer: its pieces read back over junk. -/
def out0_A_3 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) : Vec F S64x18432 .fp8e4m3 :=
  VO0_3.read (Elt F) (VO0_3.writes (Elt F) VO0_3.junk (kernelRun0_A c i arg1 harg1 arg2 harg2 arg3 harg3 arg4 harg4 arg5 harg5 arg6 harg6 arg7 harg7 x0 x1 x2).1)

/-- The run's pieces for output 4 tile its block (145 stores of `S64x144`, checked by the kernel's evaluation: Lib/Ring.lean `Piece.tiledL`, linear in the pieces, through a loop's `@[irreducible]` trip theorem too), so they cover it. -/
theorem cover0_A_4 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) (y : S64x144.Idx) :
    ∃ pc ∈ (kernelRun0_A c i arg1 harg1 arg2 harg2 arg3 harg3 arg4 harg4 arg5 harg5 arg6 harg6 arg7 harg7 x0 x1 x2).2.1, y ∈ pc.1.set :=
  View.cover_of_tiledL (kernelRun0_A c i arg1 harg1 arg2 harg2 arg3 harg3 arg4 harg4 arg5 harg5 arg6 harg6 arg7 harg7 x0 x1 x2).2.1 S64x144.size (by sl_kernel_rfl) y

/-- What the run leaves in output 4's staging buffer: its pieces read back over junk. -/
def out0_A_4 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) : Vec F S64x144 .f32 :=
  VO0_4.read (Elt F) (VO0_4.writes (Elt F) VO0_4.junk (kernelRun0_A c i arg1 harg1 arg2 harg2 arg3 harg3 arg4 harg4 arg5 harg5 arg6 harg6 arg7 harg7 x0 x1 x2).2.1)

/-- The run's pieces for output 5 tile its block (144 stores of `S64x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) (y : S64x18432.Idx) :
    ∃ pc ∈ (kernelRun0_A c i arg1 harg1 arg2 harg2 arg3 harg3 arg4 harg4 arg5 harg5 arg6 harg6 arg7 harg7 x0 x1 x2).2.2.1, y ∈ pc.1.set :=
  View.cover_of_tiledL (kernelRun0_A c i arg1 harg1 arg2 harg2 arg3 harg3 arg4 harg4 arg5 harg5 arg6 harg6 arg7 harg7 x0 x1 x2).2.2.1 S64x128.size (by sl_kernel_rfl) y

/-- What the run leaves in output 5's staging buffer: its pieces read back over junk. -/
def out0_A_5 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) : Vec F S64x18432 .bf16 :=
  VO0_5.read (Elt F) (VO0_5.writes (Elt F) VO0_5.junk (kernelRun0_A c i arg1 harg1 arg2 harg2 arg3 harg3 arg4 harg4 arg5 harg5 arg6 harg6 arg7 harg7 x0 x1 x2).2.2.1)

/-- The run's pieces for output 6 are of SEVERAL sizes (289 stores of `S64x128`, `S64x256`): cut into blocks of `![64, 128]` they tile its block (checked by the kernel's evaluation: Lib/Ring.lean `Piece.tiledBy`), so they cover it. -/
theorem cover0_A_6 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) (y : S64x256.Idx) :
    ∃ pc ∈ (kernelRun0_A c i arg1 harg1 arg2 harg2 arg3 harg3 arg4 harg4 arg5 harg5 arg6 harg6 arg7 harg7 x0 x1 x2).2.2.2.1, y ∈ pc.1.set :=
  View.cover_of_tiledBy (kernelRun0_A c i arg1 harg1 arg2 harg2 arg3 harg3 arg4 harg4 arg5 harg5 arg6 harg6 arg7 harg7 x0 x1 x2).2.2.2.1 ![64, 128] (by sl_kernel_rfl) y

/-- What the run leaves in output 6's staging buffer: its pieces read back over junk. -/
def out0_A_6 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) : Vec F S64x256 .bf16 :=
  VO0_6.read (Elt F) (VO0_6.writes (Elt F) VO0_6.junk (kernelRun0_A c i arg1 harg1 arg2 harg2 arg3 harg3 arg4 harg4 arg5 harg5 arg6 harg6 arg7 harg7 x0 x1 x2).2.2.2.1)

/-! ## What the outputs hold after each point -/

/-- What the outputs' staging buffers hold after the body at point `t` (as a tuple, in window order): the run's contents at
    the point's memrefs and input blocks. -/
def outsAt0 (c : Dev nD) (t : Fin cfg0.N) : Vec F S64x18432 .fp8e4m3 × Vec F S64x144 .f32 × Vec F S64x18432 .bf16 × Vec F S64x256 .bf16 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2.1
    | ⟨5, _⟩ => (outsAt0 m c t).2.2.1
    | ⟨6, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2.1 := by dsimp only [dats]
theorem after0_5 (c : Dev nD) (t : Fin cfg0.N) : (dats m 0 c).after 5 t = (outsAt0 m c t).2.2.1 := by dsimp only [dats]
theorem after0_6 (c : Dev nD) (t : Fin cfg0.N) : (dats m 0 c).after 6 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold outsAt0
  unfold out0_A_3 out0_A_4 out0_A_5 out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t) (iblk m c 2 t)).2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, ⟨%e3, H3⟩, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_QuantX`'s statement (Defs.lean) at any `F` — Proof.lean cites it at `Bits`:
    `theorem Cert.Proof.claim : Cert.Claim := ⟨Cert.QuantX.Gen.facts, fun m ρ _ => Cert.QuantX.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.QuantX.Gen

end
-- ==== Proof.QxRun.lean ====
module
public import proofs.«01_k».proof.Proof.Gen.QuantXIdeal.Frame.Runs
@[expose] public section
-- membership in a rectangle of production extents (`View.cover_of_tiled`): the elaborator's structural look
-- recurses once per coordinate of the long axes
set_option maxRecDepth 16384

noncomputable section

namespace Cert.QuantXIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxRecDepth 16384 in
set_option maxHeartbeats 1000000 in
/-- What a trip of the loop writes does not read the codes or the dequantised values found in their buffers. -/
theorem trip_indep (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole) (v0 : IVec S64x144 32) (X_arg1 : BufTy.Contents (Elt F) arg1.view.ty) (X_arg2 : BufTy.Contents (Elt F) arg2.view.ty) (X_arg3 : BufTy.Contents (Elt F) arg3.view.ty) (k : Fin k0_t1_loop.trips) (f4 g4 f5 f6 g6 f7) :
  tripL_k0_t1 (F := F) Variants.none c none i arg1 harg1 arg2 harg2 arg3 harg3 arg4 harg4 arg5 harg5 arg6 harg6 arg7 harg7 v0 X_arg1 X_arg2 X_arg3 k f4 f5 f6 f7 = tripL_k0_t1 (F := F) Variants.none c none i arg1 harg1 arg2 harg2 arg3 harg3 arg4 harg4 arg5 harg5 arg6 harg6 arg7 harg7 v0 X_arg1 X_arg2 X_arg3 k g4 f5 g6 f7 := by
  unfold tripL_k0_t1 trip_k0_t1
  rfl

/-- So what the loop writes does not depend on what those two buffers hold before it. -/
theorem pb_indep (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole) (v0 : IVec S64x144 32) (X_arg1 : BufTy.Contents (Elt F) arg1.view.ty) (X_arg2 : BufTy.Contents (Elt F) arg2.view.ty) (X_arg3 : BufTy.Contents (Elt F) arg3.view.ty) (f4 g4 f5 f6 g6 f7) (n : ℕ) :
  pb_k0_t1 (F := F) Variants.none c none i arg1 harg1 arg2 harg2 arg3 harg3 arg4 harg4 arg5 harg5 arg6 harg6 arg7 harg7 v0 X_arg1 X_arg2 X_arg3 f4 f5 f6 f7 n = pb_k0_t1 (F := F) Variants.none c none i arg1 harg1 arg2 harg2 arg3 harg3 arg4 harg4 arg5 harg5 arg6 harg6 arg7 harg7 v0 X_arg1 X_arg2 X_arg3 g4 f5 g6 f7 n := by
  induction n with
  | zero => rfl
  | succ n ih =>
    by_cases h : n < k0_t1_loop.trips
    · have e := pb_k0_t1_succ (F := F) Variants.none c none i arg1 harg1 arg2 harg2 arg3 harg3 arg4 harg4 arg5 harg5 arg6 harg6 arg7 harg7 v0 X_arg1 X_arg2 X_arg3 f4 f5 f6 f7 ⟨n, h⟩
      have e' := pb_k0_t1_succ (F := F) Variants.none c none i arg1 harg1 arg2 harg2 arg3 harg3 arg4 harg4 arg5 harg5 arg6 harg6 arg7 harg7 v0 X_arg1 X_arg2 X_arg3 g4 f5 g6 f7 ⟨n, h⟩
      dsimp only at e e'
      rw [e, e', ih]
      generalize pb_k0_t1 (F := F) Variants.none c none i arg1 harg1 arg2 harg2 arg3 harg3 arg4 harg4 arg5 harg5 arg6 harg6 arg7 harg7 v0 X_arg1 X_arg2 X_arg3 g4 f5 g6 f7 n = Q
      have q := trip_indep c i arg1 harg1 arg2 harg2 arg3 harg3 arg4 harg4 arg5 harg5 arg6 harg6 arg7 harg7 v0 X_arg1 X_arg2 X_arg3 ⟨n, h⟩
        (arg4.view.writes (Elt F) f4 Q.1) (arg4.view.writes (Elt F) g4 Q.1) (arg5.view.writes (Elt F) f5 Q.2.1)
        (arg6.view.writes (Elt F) f6 Q.2.2.1) (arg6.view.writes (Elt F) g6 Q.2.2.1) (arg7.view.writes (Elt F) f7 Q.2.2.2)
      exact congrArg (fun T : List (View.Piece (Elt F) S64x18432 .fp8e4m3) × List (View.Piece (Elt F) S64x144 .f32) × List (View.Piece (Elt F) S64x18432 .bf16) × List (View.Piece (Elt F) S64x256 .bf16) =>
        (T.1 ++ Q.1, T.2.1 ++ Q.2.1, T.2.2.1 ++ Q.2.2.1, T.2.2.2 ++ Q.2.2.2)) q
    · rw [pb_k0_t1.eq_2, pb_k0_t1.eq_2]
      unfold pb_k0_t1Step
      rw [dif_neg h, dif_neg h, ih]

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) :
    Σ' (L3 : List (View.Piece (Elt F) S64x18432 .fp8e4m3)), Σ' (L4 : List (View.Piece (Elt F) S64x144 .f32)), Σ' (L5 : List (View.Piece (Elt F) S64x18432 .bf16)), { L6 : List (View.Piece (Elt F) S64x256 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0_quant_x i arg1 harg1 arg2 harg2 arg3 harg3 arg4 harg4 arg5 harg5 arg6 harg6 arg7 harg7) K } := by
  refine ⟨?_, ?_, ?_, ?_, fun E K => ?run⟩
  case run =>
    simp only [cc0_quant_x_eq_skeleton]; unfold cc0_quant_x_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    sl_exec
    sl_step
    rw [pb_indep c i arg1 harg1 arg2 harg2 arg3 harg3 arg4 harg4 arg5 harg5 arg6 harg6 arg7 harg7 _ _ _ _ f3 arg4.view.junk _ f5 arg6.view.junk _ _]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact H6

end Cert.QuantXIdeal.Gen
end
-- ==== Proof.QxFrame.lean ====
/- The frame of `QuantXIdeal`: what each output block holds after a grid point, and the run of the program, from the run of the body in QxRun.lean. -/
module

public import proofs.«01_k».proof.Proof.QxRun
public import Idealize.ShloMosaic.Lib.Claim

@[expose] public section

-- membership in a rectangle of production extents (`View.cover_of_tiled`): the elaborator's structural look
-- recurses once per coordinate of the long axes
set_option maxRecDepth 16384

noncomputable section

namespace Cert.QuantXIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The run's pieces for output 3 tile its block (144 stores of `S64x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) (y : S64x18432.Idx) :
    ∃ pc ∈ (kernelRun0_A c i arg1 harg1 arg2 harg2 arg3 harg3 arg4 harg4 arg5 harg5 arg6 harg6 arg7 harg7 x0 x1 x2).1, y ∈ pc.1.set :=
  View.cover_of_tiledL (kernelRun0_A c i arg1 harg1 arg2 harg2 arg3 harg3 arg4 harg4 arg5 harg5 arg6 harg6 arg7 harg7 x0 x1 x2).1 S64x128.size (by sl_kernel_rfl) y

/-- What the run leaves in output 3's staging buffer: its pieces read back over junk. -/
def out0_A_3 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) : Vec F S64x18432 .fp8e4m3 :=
  VO0_3.read (Elt F) (VO0_3.writes (Elt F) VO0_3.junk (kernelRun0_A c i arg1 harg1 arg2 harg2 arg3 harg3 arg4 harg4 arg5 harg5 arg6 harg6 arg7 harg7 x0 x1 x2).1)

/-- The run's pieces for output 4 tile its block (145 stores of `S64x144`, checked by the kernel's evaluation: Lib/Ring.lean `Piece.tiledL`, linear in the pieces, through a loop's `@[irreducible]` trip theorem too), so they cover it. -/
theorem cover0_A_4 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) (y : S64x144.Idx) :
    ∃ pc ∈ (kernelRun0_A c i arg1 harg1 arg2 harg2 arg3 harg3 arg4 harg4 arg5 harg5 arg6 harg6 arg7 harg7 x0 x1 x2).2.1, y ∈ pc.1.set :=
  View.cover_of_tiledL (kernelRun0_A c i arg1 harg1 arg2 harg2 arg3 harg3 arg4 harg4 arg5 harg5 arg6 harg6 arg7 harg7 x0 x1 x2).2.1 S64x144.size (by sl_kernel_rfl) y

/-- What the run leaves in output 4's staging buffer: its pieces read back over junk. -/
def out0_A_4 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) : Vec F S64x144 .f32 :=
  VO0_4.read (Elt F) (VO0_4.writes (Elt F) VO0_4.junk (kernelRun0_A c i arg1 harg1 arg2 harg2 arg3 harg3 arg4 harg4 arg5 harg5 arg6 harg6 arg7 harg7 x0 x1 x2).2.1)

/-- The run's pieces for output 5 tile its block (144 stores of `S64x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) (y : S64x18432.Idx) :
    ∃ pc ∈ (kernelRun0_A c i arg1 harg1 arg2 harg2 arg3 harg3 arg4 harg4 arg5 harg5 arg6 harg6 arg7 harg7 x0 x1 x2).2.2.1, y ∈ pc.1.set :=
  View.cover_of_tiledL (kernelRun0_A c i arg1 harg1 arg2 harg2 arg3 harg3 arg4 harg4 arg5 harg5 arg6 harg6 arg7 harg7 x0 x1 x2).2.2.1 S64x128.size (by sl_kernel_rfl) y

/-- What the run leaves in output 5's staging buffer: its pieces read back over junk. -/
def out0_A_5 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) : Vec F S64x18432 .bf16 :=
  VO0_5.read (Elt F) (VO0_5.writes (Elt F) VO0_5.junk (kernelRun0_A c i arg1 harg1 arg2 harg2 arg3 harg3 arg4 harg4 arg5 harg5 arg6 harg6 arg7 harg7 x0 x1 x2).2.2.1)

/-- The run's pieces for output 6 are of SEVERAL sizes (289 stores of `S64x128`, `S64x256`): cut into blocks of `![64, 128]` they tile its block (checked by the kernel's evaluation: Lib/Ring.lean `Piece.tiledBy`), so they cover it. -/
theorem cover0_A_6 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) (y : S64x256.Idx) :
    ∃ pc ∈ (kernelRun0_A c i arg1 harg1 arg2 harg2 arg3 harg3 arg4 harg4 arg5 harg5 arg6 harg6 arg7 harg7 x0 x1 x2).2.2.2.1, y ∈ pc.1.set :=
  View.cover_of_tiledBy (kernelRun0_A c i arg1 harg1 arg2 harg2 arg3 harg3 arg4 harg4 arg5 harg5 arg6 harg6 arg7 harg7 x0 x1 x2).2.2.2.1 ![64, 128] (by sl_kernel_rfl) y

/-- What the run leaves in output 6's staging buffer: its pieces read back over junk. -/
def out0_A_6 (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole)
    (x0 : Vec F S64x18432 .bf16) (x1 : Vec F S144x128 .i32) (x2 : Vec F S2x128 .i32) : Vec F S64x256 .bf16 :=
  VO0_6.read (Elt F) (VO0_6.writes (Elt F) VO0_6.junk (kernelRun0_A c i arg1 harg1 arg2 harg2 arg3 harg3 arg4 harg4 arg5 harg5 arg6 harg6 arg7 harg7 x0 x1 x2).2.2.2.1)

/-! ## What the outputs hold after each point -/

/-- What the outputs' staging buffers hold after the body at point `t` (as a tuple, in window order): the run's contents at
    the point's memrefs and input blocks. -/
def outsAt0 (c : Dev nD) (t : Fin cfg0.N) : Vec F S64x18432 .fp8e4m3 × Vec F S64x144 .f32 × Vec F S64x18432 .bf16 × Vec F S64x256 .bf16 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2.1
    | ⟨5, _⟩ => (outsAt0 m c t).2.2.1
    | ⟨6, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2.1 := by dsimp only [dats]
theorem after0_5 (c : Dev nD) (t : Fin cfg0.N) : (dats m 0 c).after 5 t = (outsAt0 m c t).2.2.1 := by dsimp only [dats]
theorem after0_6 (c : Dev nD) (t : Fin cfg0.N) : (dats m 0 c).after 6 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold outsAt0
  unfold out0_A_3 out0_A_4 out0_A_5 out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t) (iblk m c 2 t)).2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, ⟨%e3, H3⟩, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_QuantXIdeal`'s statement (Defs.lean) at any `F` — Proof.lean cites it at `Bits`:
    `theorem Cert.Proof.claim : Cert.Claim := ⟨Cert.QuantXIdeal.Gen.facts, fun m ρ _ => Cert.QuantXIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.QuantXIdeal.Gen

end
-- ==== Proof.QxValue.lean ====
/- The output arrays of `QuantXIdeal` block by block, from its frame in QxFrame.lean. -/
module

public import proofs.«01_k».proof.Proof.QxFrame
public import Idealize.ShloMosaic.Lib.Pipeline.Value

@[expose] public section

noncomputable section

namespace Cert.QuantXIdeal.Value

open Cert.QuantXIdeal Cert.QuantXIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t).1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — the kernel's one case, `Gen.outsAt0` by definition. -/
theorem flushed3_A (c : Dev nD) (t : Fin cfg0.N) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)) := by
  simp only [flushed3, outsAt0]

/-- The index map sends distinct grid points to distinct block indices (decided over the 128 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S8192x18432.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 1), read through the window's block. -/
theorem flushed4 (c : Dev nD) (t : Fin cfg0.N) :
    (dats m 0 c).flushed 4 t = (cfg0.win 4).cut (grid0.coords t) ((outsAt0 m c t).2.1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — the kernel's one case, `Gen.outsAt0` by definition. -/
theorem flushed4_A (c : Dev nD) (t : Fin cfg0.N) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)) := by
  simp only [flushed4, outsAt0]

/-- The index map sends distinct grid points to distinct block indices (decided over the 128 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S8192x144.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 2), read through the window's block. -/
theorem flushed5 (c : Dev nD) (t : Fin cfg0.N) :
    (dats m 0 c).flushed 5 t = (cfg0.win 5).cut (grid0.coords t) ((outsAt0 m c t).2.2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — the kernel's one case, `Gen.outsAt0` by definition. -/
theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)) := by
  simp only [flushed5, outsAt0]

/-- The index map sends distinct grid points to distinct block indices (decided over the 128 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S8192x18432.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 3), read through the window's block. -/
theorem flushed6 (c : Dev nD) (t : Fin cfg0.N) :
    (dats m 0 c).flushed 6 t = (cfg0.win 6).cut (grid0.coords t) ((outsAt0 m c t).2.2.2) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — the kernel's one case, `Gen.outsAt0` by definition. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)) := by
  simp only [flushed6, outsAt0]

/-- The index map sends distinct grid points to distinct block indices (decided over the 128 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8192x256.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v15_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v15_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v15_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v15_3) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v15_0) = (dats m 0 c).arrAt 3 cfg0.N
      ∧ r.2.mem ((c : Thread nD τ).loc main_v15_1) = (dats m 0 c).arrAt 4 cfg0.N
      ∧ r.2.mem ((c : Thread nD τ).loc main_v15_2) = (dats m 0 c).arrAt 5 cfg0.N
      ∧ r.2.mem ((c : Thread nD τ).loc main_v15_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post3 m r h c,
      post4 m r h c,
      post5 m r h c,
      post6 m r h c,
      kept_main_arg0 m r h c,
      kept_main_arg1 m r h c⟩)
    (run_main m ρ)

end Cert.QuantXIdeal.Value

end
-- ==== Proof.Spec.lean ====
module
public import Idealize.ShloMosaic.Lib.Pointwise
public import Idealize.ShloMosaic.PureOps.Ideal
public import Idealize.ShloMosaic.Lib.MatmulPlain
@[expose] public section
noncomputable section
/-! The value both programs are read to: each result's element as a formula over the arguments' elements. -/
namespace Cert.Lin
open Idealize.ShloMosaic

/-- The element of an `a × b` array at row `r`, column `c`; 0 outside the array. -/
def at2 (a b : ℕ) (X : (⟨2, ![a, b]⟩ : Shape).Idx → EReal) (r c : ℕ) : EReal :=
  if h : r < a ∧ c < b then X (ix2 ⟨r, h.1⟩ ⟨c, h.2⟩) else 0

theorem at2_of {a b : ℕ} (X : (⟨2, ![a, b]⟩ : Shape).Idx → EReal) {r c : ℕ} (hr : r < a) (hc : c < b) :
    at2 a b X r c = X (ix2 ⟨r, hr⟩ ⟨c, hc⟩) := dif_pos ⟨hr, hc⟩

theorem at2_row {a b : ℕ} (X : (⟨2, ![a, b]⟩ : Shape).Idx → EReal) {r c : ℕ} (hr : a ≤ r) : at2 a b X r c = 0 :=
  dif_neg fun h => absurd h.1 (by omega)

theorem at2_col {a b : ℕ} (X : (⟨2, ![a, b]⟩ : Shape).Idx → EReal) {r c : ℕ} (hc : b ≤ c) : at2 a b X r c = 0 :=
  dif_neg fun h => absurd h.2 (by omega)

theorem at2_ix {a b : ℕ} (X : (⟨2, ![a, b]⟩ : Shape).Idx → EReal) (r : Fin a) (c : Fin b) :
    at2 a b X r.val c.val = X (ix2 r c) := dif_pos ⟨r.isLt, c.isLt⟩

/-- One product of the quantised part: activation times dequantised weight. -/
def term (X W S : ℕ → ℕ → EReal) (r n k : ℕ) : EReal := X r k * (W k n * S (k / 128) (n / 128))

/-- The output at row `r`, column `n`: the product with the dequantised weight, the outlier columns' product, the bias and the
    residual. -/
def out (X XO WO W S B R : ℕ → ℕ → EReal) (r n : ℕ) : EReal :=
  (∑ k ∈ Finset.range 18432, term X W S r n k) + (∑ k ∈ Finset.range 208, XO r k * WO k n) + B 0 n + R r n

/-- Nine chunks of 2048 products are the whole sum. -/
theorem sum_chunks (f : ℕ → EReal) (j : ℕ) :
    ∑ k ∈ Finset.range j, ∑ p ∈ Finset.range 2048, f (2048 * k + p) = ∑ k ∈ Finset.range (2048 * j), f k := by
  induction j with
  | zero => simp
  | succ j ih => rw [Finset.sum_range_succ, ih, Nat.mul_succ, Finset.sum_range_add]

/-- Positions where every product is 0 add nothing. -/
theorem sum_pad (f : ℕ → EReal) (h : ∀ k, 208 ≤ k → f k = 0) : ∑ k ∈ Finset.range 256, f k = ∑ k ∈ Finset.range 208, f k := by
  rw [show 256 = 208 + 48 from rfl, Finset.sum_range_add, Finset.sum_eq_zero (s := Finset.range 48), add_zero]
  intro k _
  exact h _ (by omega)

theorem ofBits_zero : (Scalar.ofBits (F := Ideal) .f32 0x00000000#32 : EReal) = 0 := by
  exact Ideal.ofBits_zero_f32

/-- A product into zero, at an index. -/
theorem plain_ix {φ ψ : FTy} {M K N : ℕ} (x : FVec Ideal ⟨2, ![M, K]⟩ φ) (w : FVec Ideal ⟨2, ![K, N]⟩ ψ) (r : Fin M) (n : Fin N) :
    (matmul (DotDims.plain M K N) none x w (constant (F := Ideal) ⟨2, ![M, N]⟩ .f32 0x00000000#32)) (ix2 r n) = ∑ k : Fin K, x (ix2 r k) * w (ix2 k n) := by
  refine (Ideal.matmul_plain_apply none x w _ r n).trans ?_
  rw [show (constant (F := Ideal) ⟨2, ![M, N]⟩ .f32 0x00000000#32) (ValueIdx.ix2 r n) = (0 : EReal) from ofBits_zero, zero_add]
  rfl

end Cert.Lin
-- ==== Proof.Tile.lean ====
module
public import proofs.«01_k».proof.Proof.Gen.KernelIdeal.Value
public import Idealize.ShloMosaic.Lib.Pointwise
public import Idealize.ShloMosaic.Lib.Pipeline.ValueKit.Tiles
@[expose] public section
noncomputable section
namespace Cert.KernelIdeal.Val
open Idealize.ShloMosaic Idealize.ShloMosaic.TcCoe Idealize.ShloMosaic.Tactic Idealize.SL.Sem
open Cert.KernelIdeal Cert.KernelIdeal.Gen
theorem hz : (![0, 0] : Fin 2 → Nat) = fun _ => 0 := funext fun a => by fin_cases a <;> rfl

/-- The block scale of the weight at row `r`, column `c` of the scale table (0 outside the table). -/
def wsAt (x0 : Vec Ideal S144x56 .f32) (r c : ℕ) : EReal :=
  if h : r < 144 ∧ c < 56 then x0 (ix2 ⟨r, h.1⟩ ⟨c, h.2⟩) else 0

/-- A scalar load of the scale table is the table at the loaded position. -/
theorem ld_ws (x0 : Vec Ideal S144x56 .f32) (A B : ℕ) (inb) (h) :
    View.ld (Val := Elt Ideal) (e' := .f32) x0 (Rect.unit (s := S144x56) ![A, B] ![1, 1] inb) (Shape.Idx.first h) = wsAt x0 A B := by
  have hA : A + 1 ≤ 144 := inb 0
  have hB : B + 1 ≤ 56 := inb 1
  unfold wsAt
  rw [dif_pos ⟨by omega, by omega⟩]
  apply View.ld_unit_apply_of
  intro a
  match a with
  | ⟨0, _⟩ => rfl
  | ⟨1, _⟩ => rfl

/-- One coordinate of a scale's position: `n` blocks of `m`, then `b` further, computed in 32-bit words without overflow. -/
theorem pos_toNat (n m b : ℕ) (h : n * m + b < 4294967296) (hn : n < 4294967296) (hm : m < 4294967296) :
    (Scalar.indexCast (Scalar.addi (Scalar.muli (BitVec.ofNat 32 n) (BitVec.ofNat 32 m)) (BitVec.ofNat 32 b))).toNat = n * m + b := by
  show ((BitVec.ofNat 32 n * BitVec.ofNat 32 m + BitVec.ofNat 32 b : BitVec 32)).toNat = _
  rw [BitVec.toNat_add, BitVec.toNat_mul, BitVec.toNat_ofNat, BitVec.toNat_ofNat, BitVec.toNat_ofNat]
  have h1 : n * m < 4294967296 := by omega
  rw [Nat.mod_eq_of_lt hn, Nat.mod_eq_of_lt hm, Nat.mod_eq_of_lt (show b < 2 ^ 32 by omega), Nat.mod_eq_of_lt (show n * m < 2 ^ 32 by omega), Nat.mod_eq_of_lt (show n * m + b < 2 ^ 32 by omega)]

/-- One dequantised 128 × 128 tile: the codes times their one scale. -/
def tileOf (s : Elt Ideal .f32) (w : Vec Ideal S128x128 .fp8e4m3) : FVec Ideal S128x128 .bf16 :=
  mulf (extf .bf16 w bitsLt_fp8e4m3_bf16) (truncf .bf16 (broadcast S128x128 s) bitsLt_bf16_f32)

/-- The rectangle of tile `(b, j)` in a weight block. -/
def inbW (b : Fin 16) (j : Fin 4) : ∀ a, (![128 * b.val, 128 * j.val] : Fin 2 → ℕ) a + (![128, 128] : Fin 2 → ℕ) a ≤ S2048x512.size a := by
  intro a
  have := b.isLt; have := j.isLt
  match a with
  | ⟨0, _⟩ => show 128 * b.val + 128 ≤ 2048; omega
  | ⟨1, _⟩ => show 128 * j.val + 128 ≤ 512; omega

/-- The scale's row for tile row `b` at grid position `i`, in 32-bit words. -/
def rowW (i : grid0.Coords) (b : ℕ) : ℕ :=
  BitVec.toNat (Scalar.indexCast (Scalar.addi (Scalar.muli (BitVec.ofNat 32 (i 2).val) 16#32) (BitVec.ofNat 32 b)))
/-- The scale's column for tile column `j` at grid position `i`, in 32-bit words. -/
def colW (i : grid0.Coords) (j : ℕ) : ℕ :=
  BitVec.toNat (Scalar.indexCast (Scalar.addi (Scalar.muli (BitVec.ofNat 32 (i 1).val) 4#32) (BitVec.ofNat 32 j)))

theorem rowW_eq (i : grid0.Coords) (b : ℕ) (hb : b < 16) : rowW i b = (i 2).val * 16 + b :=
  pos_toNat (i 2).val 16 b (by have : (i 2).val < 9 := (i 2).isLt; omega) (by have : (i 2).val < 9 := (i 2).isLt; omega) (by omega)
theorem colW_eq (i : grid0.Coords) (j : ℕ) (hb : j < 4) : colW i j = (i 1).val * 4 + j :=
  pos_toNat (i 1).val 4 j (by have : (i 1).val < 14 := (i 1).isLt; omega) (by have : (i 1).val < 14 := (i 1).isLt; omega) (by omega)

theorem inbS (i : grid0.Coords) (b : Fin 16) (j : Fin 4) :
    ∀ a, (![rowW i b.val, colW i j.val] : Fin 2 → ℕ) a + (![1, 1] : Fin 2 → ℕ) a ≤ S144x56.size a := by
  intro a
  have h1 : (i 1).val < 14 := (i 1).isLt
  have h2 : (i 2).val < 9 := (i 2).isLt
  match a with
  | ⟨0, _⟩ => show rowW i b.val + 1 ≤ 144; rw [rowW_eq i b.val b.isLt]; omega
  | ⟨1, _⟩ => show colW i j.val + 1 ≤ 56; rw [colW_eq i j.val j.isLt]; omega

/-- Tile `(b, j)` of a weight block under the scales of grid position `i`. -/
def tileAt (x0 : Vec Ideal S144x56 .f32) (x3 : Vec Ideal S2048x512 .fp8e4m3) (i : grid0.Coords) (j : Fin 4) (b : Fin 16) : FVec Ideal S128x128 .bf16 :=
  tileOf (View.ld (Val := Elt Ideal) (e' := .f32) x0 (Rect.unit (s := S144x56) ![rowW i b.val, colW i j.val] ![1, 1] (inbS i b j)) (Shape.Idx.first (show 0 < (⟨2, ![1, 1]⟩ : Shape).numel from by decide)))
    (View.ld (Val := Elt Ideal) (e' := .fp8e4m3) x3 (Rect.unit (s := S2048x512) ![128 * b.val, 128 * j.val] ![128, 128] (inbW b j)))

/-- A column of sixteen tiles, one under the other. -/
def colAt (x0 : Vec Ideal S144x56 .f32) (x3 : Vec Ideal S2048x512 .fp8e4m3) (i : grid0.Coords) (j : Fin 4) : FVec Ideal S2048x128 .bf16 :=
  concatenate S2048x128 0 (List.ofFn fun b : Fin 16 => (⟨S128x128, tileAt x0 x3 i j b⟩ : (s : Shape) × (s.Idx → Elt Ideal .bf16)))
    concatenates_S128x128_S128x128_S128x128_S128x128_S128x128_S128x128_S128x128_S128x128_S128x128_S128x128_S128x128_S128x128_S128x128_S128x128_S128x128_S128x128_S2048x128_d0

/-- The dequantised weight block: four columns side by side. -/
def wblkAt (x0 : Vec Ideal S144x56 .f32) (x3 : Vec Ideal S2048x512 .fp8e4m3) (i : grid0.Coords) : FVec Ideal S2048x512 .bf16 :=
  concatenate S2048x512 1 (List.ofFn fun j : Fin 4 => (⟨S2048x128, colAt x0 x3 i j⟩ : (s : Shape) × (s.Idx → Elt Ideal .bf16)))
    concatenates_S2048x128_S2048x128_S2048x128_S2048x128_S2048x512_d1

theorem colAt_apply (x0 : Vec Ideal S144x56 .f32) (x3 : Vec Ideal S2048x512 .fp8e4m3) (i : grid0.Coords) (j : Fin 4) (p : Fin 2048) (q : Fin 128) :
    colAt x0 x3 i j (ix2 p q) = (x3 (ix2 p ⟨128 * j.val + q.val, by omega⟩) * wsAt x0 ((i 2).val * 16 + p.val / 128) ((i 1).val * 4 + j.val) : EReal) := by
  unfold colAt
  refine (concatenate_ofFn_apply (t := S2048x128) (s₁ := S128x128) 0 (tileAt x0 x3 i j) _ rfl 128 rfl (ix2 p q) ⟨p.val / 128, by omega⟩ rfl (ix2 ⟨p.val % 128, by omega⟩ q) rfl
    (fun b hb => by match b with
      | ⟨0, _⟩ => exact absurd rfl hb
      | ⟨1, _⟩ => rfl)).trans ?_
  unfold tileAt tileOf
  rw [ld_ws, rowW_eq i _ (by show p.val / 128 < 16; omega), colW_eq i _ j.isLt]
  show (_ * _ : EReal) = _
  congr 1
  apply View.ld_unit_apply_of
  intro a
  match a with
  | ⟨0, _⟩ => show p.val = 128 * (p.val / 128) + p.val % 128; omega
  | ⟨1, _⟩ => rfl

/-- An element of the dequantised weight block: the code times the scale of its 128 × 128 block. -/
theorem wblkAt_apply (x0 : Vec Ideal S144x56 .f32) (x3 : Vec Ideal S2048x512 .fp8e4m3) (i : grid0.Coords) (p : Fin 2048) (q : Fin 512) :
    wblkAt x0 x3 i (ix2 p q) = (x3 (ix2 p q) * wsAt x0 ((i 2).val * 16 + p.val / 128) ((i 1).val * 4 + q.val / 128) : EReal) := by
  unfold wblkAt
  refine (concatenate_ofFn_apply (t := S2048x512) (s₁ := S2048x128) 1 (colAt x0 x3 i) _ rfl 128 rfl (ix2 p q) ⟨q.val / 128, by omega⟩ rfl (ix2 p ⟨q.val % 128, by omega⟩) rfl
    (fun b hb => by match b with
      | ⟨0, _⟩ => rfl
      | ⟨1, _⟩ => exact absurd rfl hb)).trans ?_
  rw [colAt_apply]
  congr 3
  exact Fin.ext (by show 128 * (q.val / 128) + q.val % 128 = q.val; omega)

end Cert.KernelIdeal.Val
-- ==== Proof.Host.lean ====
module
public import proofs.«01_k».proof.Proof.Spec
public import proofs.«01_k».proof.Proof.Tile
public import proofs.«01_k».proof.Proof.Gen.KernelIdeal.Value
public import Idealize.ShloMosaic.Lib.Claim
public import Idealize.ShloMosaic.Lib.Pipeline.ValueKit
@[expose] public section
noncomputable section
namespace Cert.KernelIdeal.Val
open Idealize.ShloMosaic Idealize.ShloMosaic.TcCoe Idealize.ShloMosaic.Tactic Idealize.SL.Sem
open Cert.KernelIdeal Cert.KernelIdeal.Gen
open Cert.Lin
variable (m : (ℓ : Loc nD τ sig) → Buf (Elt Ideal) ℓ) (c : Dev nD)

/-- The arguments, by row and column: the activation, the outlier columns, the outlier rows of the weight, the weight codes,
    their block scales, the bias and the residual. -/
def aX : ℕ → ℕ → EReal := at2 8192 18432 (shapeCast S8192x18432 (m ((c : Thread nD τ).loc main_arg0)) shapeCasts_S2x4096x18432_S8192x18432)
def aXO : ℕ → ℕ → EReal := at2 8192 208 (shapeCast S8192x208 (m ((c : Thread nD τ).loc main_arg1)) shapeCasts_S2x4096x208_S8192x208)
def aWO : ℕ → ℕ → EReal := at2 208 7168 (m ((c : Thread nD τ).loc main_arg2))
def aW : ℕ → ℕ → EReal := at2 18432 7168 (m ((c : Thread nD τ).loc main_arg3))
def aS : ℕ → ℕ → EReal := at2 144 56 (m ((c : Thread nD τ).loc main_arg4))
def aB : ℕ → ℕ → EReal := at2 1 7168 (shapeCast S1x7168 (m ((c : Thread nD τ).loc main_arg5)) shapeCasts_S7168_S1x7168)
def aR : ℕ → ℕ → EReal := at2 8192 7168 (shapeCast S8192x7168 (m ((c : Thread nD τ).loc main_arg6)) shapeCasts_S2x4096x7168_S8192x7168)

/-- The grid coordinates of point `t`: row block, column block, chunk. -/
theorem coords_eq : ∀ t : Fin cfg0.N, (grid0.coords t 0).val = t.val / 126 ∧ (grid0.coords t 1).val = t.val / 9 % 14 ∧ (grid0.coords t 2).val = t.val % 9 :=
  (by decide +kernel : ∀ t : Fin grid0.N, _)
theorem idx0 : ∀ t : Fin cfg0.N, win0_0.index t = ![0, 0] := (by decide +kernel : ∀ t : Fin grid0.N, _)
theorem idx1 : ∀ t : Fin cfg0.N, win0_1.index t = ![t.val / 126, t.val % 9] := (by decide +kernel : ∀ t : Fin grid0.N, _)
theorem idx2 : ∀ t : Fin cfg0.N, win0_2.index t = ![t.val / 126, 0] := (by decide +kernel : ∀ t : Fin grid0.N, _)
theorem idx3 : ∀ t : Fin cfg0.N, win0_3.index t = ![t.val % 9, t.val / 9 % 14] := (by decide +kernel : ∀ t : Fin grid0.N, _)
theorem idx4 : ∀ t : Fin cfg0.N, win0_4.index t = ![0, t.val / 9 % 14] := (by decide +kernel : ∀ t : Fin grid0.N, _)
theorem idx5 : ∀ t : Fin cfg0.N, win0_5.index t = ![0, t.val / 9 % 14] := (by decide +kernel : ∀ t : Fin grid0.N, _)
theorem idx6 : ∀ t : Fin cfg0.N, win0_6.index t = ![t.val / 126, t.val / 9 % 14] := (by decide +kernel : ∀ t : Fin grid0.N, _)

theorem V0 : V m c main_v0 = shapeCast S8192x18432 (m ((c : Thread nD τ).loc main_arg0)) shapeCasts_S2x4096x18432_S8192x18432 := by
  entry_read
  simp only [List.flatten_cons, List.flatten_nil, List.append_nil, List.cons_append, List.nil_append]
  after_results
  rfl
theorem V3 : V m c main_v3 = shapeCast S8192x7168 (m ((c : Thread nD τ).loc main_arg6)) shapeCasts_S2x4096x7168_S8192x7168 := by
  entry_read
  simp only [List.flatten_cons, List.flatten_nil, List.append_nil, List.cons_append, List.nil_append]
  after_results
  rfl
theorem V5 : V m c main_v5 = shapeCast S1x7168 (m ((c : Thread nD τ).loc main_arg5)) shapeCasts_S7168_S1x7168 := by
  entry_read
  simp only [List.flatten_cons, List.flatten_nil, List.append_nil, List.cons_append, List.nil_append]
  after_results
  rfl

/-- The outlier operands are padded with zeros to 256 columns (rows). -/
theorem V2 : V m c main_v2 = pad S8192x256 ![0, 0] ![0, 48] ![0, 0] (shapeCast S8192x208 (m ((c : Thread nD τ).loc main_arg1)) shapeCasts_S2x4096x208_S8192x208)
    (sitofp (F := Ideal) .bf16 (constantI S_ 32 0#32)) pads_S8192x208_S8192x256_000_0480 h_S_ := by
  entry_read
  simp only [List.flatten_cons, List.flatten_nil, List.append_nil, List.cons_append, List.nil_append]
  after_results
  rfl
theorem V4 : V m c main_v4 = pad S256x7168 ![0, 0] ![48, 0] ![0, 0] (m ((c : Thread nD τ).loc main_arg2))
    (sitofp (F := Ideal) .bf16 (constantI S_ 32 0#32)) pads_S208x7168_S256x7168_0480_000 h_S_ := by
  entry_read
  simp only [List.flatten_cons, List.flatten_nil, List.append_nil, List.cons_append, List.nil_append]
  after_results
  rfl

/-- The pad value: the integer 0 as a float. -/
theorem pad0 : FloatOps.sitofp (F := Ideal) FTy.bf16 (0#32) = (0 : EReal) := by
  show (((0#32 : BitVec 32).toInt : ℝ) : EReal) = 0
  simp
theorem padXO (x : S8192x208.Idx → EReal) (r : Fin 8192) (k : Fin 256) :
    pad S8192x256 ![0, 0] ![0, 48] ![0, 0] x
    (sitofp (F := Ideal) .bf16 (constantI S_ 32 0#32)) pads_S8192x208_S8192x256_000_0480 h_S_ (ix2 r k) = at2 8192 208 x r.val k.val := by
  pointwise
  by_cases h : k.val < 208
  · rw [dif_pos h, at2_of _ r.isLt h]
  · rw [dif_neg h, at2_col _ (by omega)]; exact pad0
theorem padWO (x : S208x7168.Idx → EReal) (r : Fin 256) (k : Fin 7168) :
    pad S256x7168 ![0, 0] ![48, 0] ![0, 0] x
    (sitofp (F := Ideal) .bf16 (constantI S_ 32 0#32)) pads_S208x7168_S256x7168_0480_000 h_S_ (ix2 r k) = at2 208 7168 x r.val k.val := by
  pointwise
  by_cases h : r.val < 208
  · rw [dif_pos h, at2_of _ h k.isLt]
  · rw [dif_neg h, at2_row _ (by omega)]; exact pad0

theorem iblk1 (t : Fin cfg0.N) (r : Fin 1024) (k : Fin 2048) :
    iblk m c 1 t (ix2 r k) = aX m c (1024 * (t.val / 126) + r.val) (2048 * (t.val % 9) + k.val) := by
  have hN : t.val < 1008 := lt_of_lt_of_eq t.isLt N_0
  have hr := r.isLt
  have hk := k.isLt
  unfold aX
  rw [at2_of _ (by omega) (by omega), ← V0]
  unfold iblk
  blk_simp
  refine congrArg (V m c main_v0) (funext fun a => Fin.ext ?_)
  match a with
  | ⟨0, _⟩ => blk_simp; rw [idx1]; show _ * 1024 + r.val = _; simp; omega
  | ⟨1, _⟩ => blk_simp; rw [idx1]; show _ * 2048 + k.val = _; simp; omega
theorem iblk3 (t : Fin cfg0.N) (r : Fin 2048) (k : Fin 512) :
    iblk m c 3 t (ix2 r k) = aW m c (2048 * (t.val % 9) + r.val) (512 * (t.val / 9 % 14) + k.val) := by
  have hN : t.val < 1008 := lt_of_lt_of_eq t.isLt N_0
  have hr := r.isLt
  have hk := k.isLt
  unfold aW
  rw [at2_of _ (by omega) (by omega)]
  unfold iblk
  blk_simp
  rw [← V_main_arg3 m c]
  refine congrArg (V m c main_arg3) (funext fun a => Fin.ext ?_)
  match a with
  | ⟨0, _⟩ => blk_simp; rw [idx3]; show _ * 2048 + r.val = _; simp; omega
  | ⟨1, _⟩ => blk_simp; rw [idx3]; show _ * 512 + k.val = _; simp; omega
theorem iblk5 (t : Fin cfg0.N) (r : Fin 1) (k : Fin 512) :
    iblk m c 5 t (ix2 r k) = aB m c 0 (512 * (t.val / 9 % 14) + k.val) := by
  have hN : t.val < 1008 := lt_of_lt_of_eq t.isLt N_0
  have hr := r.isLt
  have hk := k.isLt
  unfold aB
  rw [at2_of _ (by omega) (by omega), ← V5]
  unfold iblk
  blk_simp
  refine congrArg (V m c main_v5) (funext fun a => Fin.ext ?_)
  match a with
  | ⟨0, _⟩ => blk_simp; rw [idx5]; simp
  | ⟨1, _⟩ => blk_simp; rw [idx5]; show _ * 512 + k.val = _; simp; omega
theorem iblk6 (t : Fin cfg0.N) (r : Fin 1024) (k : Fin 512) :
    iblk m c 6 t (ix2 r k) = aR m c (1024 * (t.val / 126) + r.val) (512 * (t.val / 9 % 14) + k.val) := by
  have hN : t.val < 1008 := lt_of_lt_of_eq t.isLt N_0
  have hr := r.isLt
  have hk := k.isLt
  unfold aR
  rw [at2_of _ (by omega) (by omega), ← V3]
  unfold iblk
  blk_simp
  refine congrArg (V m c main_v3) (funext fun a => Fin.ext ?_)
  match a with
  | ⟨0, _⟩ => blk_simp; rw [idx6]; show _ * 1024 + r.val = _; simp; omega
  | ⟨1, _⟩ => blk_simp; rw [idx6]; show _ * 512 + k.val = _; simp; omega

theorem iblk2 (t : Fin cfg0.N) (r : Fin 1024) (k : Fin 256) :
    iblk m c 2 t (ix2 r k) = aXO m c (1024 * (t.val / 126) + r.val) (k.val) := by
  have hN : t.val < 1008 := lt_of_lt_of_eq t.isLt N_0
  have hr := r.isLt
  have hk := k.isLt
  unfold aXO
  refine Eq.trans ?_ (padXO _ ⟨1024 * (t.val / 126) + r.val, by omega⟩ ⟨k.val, by omega⟩)
  rw [← V2]
  unfold iblk
  blk_simp
  refine congrArg (V m c main_v2) (funext fun a => Fin.ext ?_)
  match a with
  | ⟨0, _⟩ => blk_simp; rw [idx2]; show _ * 1024 + r.val = _; simp; try omega
  | ⟨1, _⟩ => blk_simp; rw [idx2]; show _ * 256 + k.val = _; simp; try omega
theorem iblk4 (t : Fin cfg0.N) (r : Fin 256) (k : Fin 512) :
    iblk m c 4 t (ix2 r k) = aWO m c (r.val) (512 * (t.val / 9 % 14) + k.val) := by
  have hN : t.val < 1008 := lt_of_lt_of_eq t.isLt N_0
  have hr := r.isLt
  have hk := k.isLt
  unfold aWO
  refine Eq.trans ?_ (padWO _ ⟨r.val, by omega⟩ ⟨512 * (t.val / 9 % 14) + k.val, by omega⟩)
  rw [← V4]
  unfold iblk
  blk_simp
  refine congrArg (V m c main_v4) (funext fun a => Fin.ext ?_)
  match a with
  | ⟨0, _⟩ => blk_simp; rw [idx4]; show _ * 256 + r.val = _; simp; try omega
  | ⟨1, _⟩ => blk_simp; rw [idx4]; show _ * 512 + k.val = _; simp; try omega

theorem iblk0 (t : Fin cfg0.N) (r k : ℕ) : wsAt (iblk m c 0 t) r k = aS m c r k := by
  unfold wsAt aS at2
  by_cases h : r < 144 ∧ k < 56
  · rw [dif_pos h, dif_pos h, ← V_main_arg4 m c]
    unfold iblk
    blk_simp
    refine congrArg (V m c main_arg4) (funext fun a => Fin.ext ?_)
    match a with
    | ⟨0, _⟩ => blk_simp; simp [idx0]
    | ⟨1, _⟩ => blk_simp; simp [idx0]
  · rw [dif_neg h, dif_neg h]
end Cert.KernelIdeal.Val
-- ==== Proof.Block.lean ====
module
public import proofs.«01_k».proof.Proof.Tile
@[expose] public section
noncomputable section
namespace Cert.KernelIdeal.Val
open Idealize.ShloMosaic Idealize.ShloMosaic.TcCoe Idealize.ShloMosaic.Tactic Idealize.SL.Sem
open Cert.KernelIdeal Cert.KernelIdeal.Gen
variable (c : Dev nD) (i : grid0.Coords) (arg3 : Memref sig .tc .smem S144x56 .f32) (harg3 : arg3.IsWhole) (arg4 : Memref sig .tc .vmem S1024x2048 .bf16) (harg4 : arg4.IsWhole) (arg5 : Memref sig .tc .vmem S1024x256 .bf16) (harg5 : arg5.IsWhole) (arg6 : Memref sig .tc .vmem S2048x512 .fp8e4m3) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .fp8e4m3) (harg11 : arg11.IsWhole) (arg12 : Memref sig .tc .vmem S1x1024x4 .f32) (harg12 : arg12.IsWhole) (arg13 : Memref sig .tc .vmem S1024x512 .f32) (harg13 : arg13.IsWhole)
  (x0 : Vec Ideal S144x56 .f32) (x1 : Vec Ideal S1024x2048 .bf16) (x2 : Vec Ideal S1024x256 .bf16) (x3 : Vec Ideal S2048x512 .fp8e4m3) (x4 : Vec Ideal S256x512 .bf16) (x5 : Vec Ideal S1x512 .f32) (x6 : Vec Ideal S1024x512 .bf16) (xs0 : Vec Ideal S1024x512 .f32)

set_option maxRecDepth 16384 in
set_option maxHeartbeats 1000000 in
theorem accB (hc0 : ¬cond0_0 i) (hc1 : ¬cond0_1 i) : sout0_B_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xs0 =
    addf (φ := .f32) xs0 (matmul dot_S1024x2048_S2048x512_S1024x512_1_0_0_1_n_n none (φ₁ := .bf16) x1 (wblkAt x0 x3 i) (constant (F := Ideal) S1024x512 .f32 0x00000000#32)) := by
  unfold sout0_B_0
  rw [View.read_writes_eq_canon _ _ _ (scover0_B_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xs0)]
  unfold kernelRun0_B
  dsimp only
  sl_unfold_words
  rw [View.canon_unit_zero (S := S1024x512) hz]
  simp only [View.readAt_eq_ld]
  rw [harg3.read_unread x0, harg6.read_unread x3, harg4.read_unread x1, harg13.read_unread xs0, View.ld_unit_zero (S := S1024x512) hz, View.ld_unit_zero (S := S1024x2048) hz]
  unfold k0_pay119
  simp only [shapeCast_self]
  rfl

set_option maxRecDepth 16384 in
set_option maxHeartbeats 1000000 in
theorem accA (hc0 : cond0_0 i) (hc1 : ¬cond0_1 i) : sout0_A_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 =
    addf (φ := .f32) (matmul dot_S1024x256_S256x512_S1024x512_1_0_0_1_n_n none (φ₁ := .bf16) (φ₂ := .bf16) x2 x4 (constant (F := Ideal) S1024x512 .f32 0x00000000#32))
      (matmul dot_S1024x2048_S2048x512_S1024x512_1_0_0_1_n_n none (φ₁ := .bf16) x1 (wblkAt x0 x3 i) (constant (F := Ideal) S1024x512 .f32 0x00000000#32)) := by
  unfold sout0_A_0
  rw [View.read_writes_eq_canon _ _ _ (scover0_A_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S1024x512) hz]
  simp only [View.readAt_eq_ld]
  rw [harg3.read_unread x0, harg6.read_unread x3, harg4.read_unread x1, harg5.read_unread x2, harg7.read_unread x4, View.readCov_unit_zero (S := S1024x512) _ hz, View.ld_unit_zero (S := S1024x2048) hz, View.ld_unit_zero (S := S1024x256) hz, View.ld_unit_zero (S := S256x512) hz]
  unfold k0_pay119 k0_pay53
  simp only [shapeCast_self]
  rfl
end Cert.KernelIdeal.Val
-- ==== Proof.Quant.lean ====
module
public import proofs.«01_k».proof.Proof.Tile
@[expose] public section
noncomputable section
namespace Cert.KernelIdeal.Val
open Idealize.ShloMosaic Idealize.ShloMosaic.TcCoe Idealize.ShloMosaic.Tactic Idealize.SL.Sem
open Cert.KernelIdeal Cert.KernelIdeal.Gen
/-- The scratch block after a point's product is added: what it held, plus the activation block times the dequantised weight block. -/
def accAt (x0 : Vec Ideal S144x56 .f32) (x1 : Vec Ideal S1024x2048 .bf16) (x3 : Vec Ideal S2048x512 .fp8e4m3) (i : grid0.Coords) (xs : Vec Ideal S1024x512 .f32) : FVec Ideal S1024x512 .f32 :=
  addf (φ := .f32) xs (matmul dot_S1024x2048_S2048x512_S1024x512_1_0_0_1_n_n none (φ₁ := .bf16) x1 (wblkAt x0 x3 i) (constant (F := Ideal) S1024x512 .f32 0x00000000#32))

theorem pay119_eq (v0 v1 v2 v3 : FVec Ideal S2048x128 .bf16) (a : Vec Ideal S1024x512 .f32) (x : Vec Ideal S1024x2048 .bf16) :
    k0_pay119 v0 v1 v2 v3 a x = addf (φ := .f32) a (matmul dot_S1024x2048_S2048x512_S1024x512_1_0_0_1_n_n none (φ₁ := .bf16) x
      (concatenate S2048x512 1 [⟨S2048x128, v0⟩, ⟨S2048x128, v1⟩, ⟨S2048x128, v2⟩, ⟨S2048x128, v3⟩] concatenates_S2048x128_S2048x128_S2048x128_S2048x128_S2048x512_d1)
      (constant (F := Ideal) S1024x512 .f32 0x00000000#32)) := by
  unfold k0_pay119
  simp only [shapeCast_self]

theorem inbT (j : Fin 4) : ∀ a, (![0, 128 * j.val] : Fin 2 → ℕ) a + (![1024, 128] : Fin 2 → ℕ) a ≤ S1024x512.size a := by
  intro a
  have := j.isLt
  match a with
  | ⟨0, _⟩ => show 0 + 1024 ≤ 1024; omega
  | ⟨1, _⟩ => show 128 * j.val + 128 ≤ 512; omega
theorem inbB (j : Fin 4) : ∀ a, (![0, 128 * j.val] : Fin 2 → ℕ) a + (![1, 128] : Fin 2 → ℕ) a ≤ S1x512.size a := by
  intro a
  have := j.isLt
  match a with
  | ⟨0, _⟩ => show 0 + 1 ≤ 1; omega
  | ⟨1, _⟩ => show 128 * j.val + 128 ≤ 512; omega

/-- Column tile `j` of the output block: scratch plus bias plus residual. -/
def outT (A : Vec Ideal S1024x512 .f32) (x5 : Vec Ideal S1x512 .f32) (x6 : Vec Ideal S1024x512 .bf16) (j : Fin 4) : FVec Ideal S1024x128 .bf16 :=
  k0_pay3 (View.ld (Val := Elt Ideal) (e' := .f32) A (Rect.unit (s := S1024x512) ![0, 128 * j.val] ![1024, 128] (inbT j)))
    (View.ld (Val := Elt Ideal) (e' := .f32) x5 (Rect.unit (s := S1x512) ![0, 128 * j.val] ![1, 128] (inbB j)))
    (View.ld (Val := Elt Ideal) (e' := .bf16) x6 (Rect.unit (s := S1024x512) ![0, 128 * j.val] ![1024, 128] (inbT j)))

/-- The greatest magnitude of each row of a tile, on every lane. -/
def amaxT (o : FVec Ideal S1024x128 .bf16) : FVec Ideal S1024x128 .f32 :=
  extf .f32 (broadcastTo S1024x128 (shapeCast S1024x1 (shapeCast S1024x1 (multiReduction .maximumf [1] S1024 (absf o) 0xFF80#16 reduces_S1024x128_S1024 (.inr rfl) rfl) shapeCasts_S1024_S1024x1) shapeCasts_S1024x1_S1024x1) broadcasts_S1024x1_S1024x128) bitsLt_bf16_f32

/-- One step of the search for the exponent: take the bit if the row's magnitude reaches the power of two it stands for. -/
def stepT (a : FVec Ideal S1024x128 .f32) (bit : BitVec 32) (e : IVec S1024x128 32) : IVec S1024x128 32 :=
  select (cmpf .oge a (mulf (broadcast S1024x128 (Scalar.ofBits .f32 0x43E00000#32)) (bitcastToFloat .f32 (shli (subi (addi e (broadcast S1024x128 bit)) (broadcast S1024x128 1#32)) (broadcast S1024x128 23#32)))))
    (addi e (broadcast S1024x128 bit)) e

/-- The exponent found. -/
def expT (a : FVec Ideal S1024x128 .f32) : IVec S1024x128 32 :=
  select (cmpf .oeq a (broadcast S1024x128 (Scalar.ofBits .f32 0x00000000#32))) (broadcast S1024x128 127#32)
    (minsi (stepT a 1#32 (stepT a 2#32 (stepT a 4#32 (stepT a 8#32 (stepT a 16#32 (stepT a 32#32 (stepT a 64#32 (stepT a 128#32 (broadcast S1024x128 0#32))))))))) (broadcast S1024x128 253#32))

/-- The scale of each row of a tile. -/
def scaleT (e : IVec S1024x128 32) : FVec Ideal S1024x128 .bf16 :=
  truncf .bf16 (bitcastToFloat .f32 (shli e (broadcast S1024x128 23#32)) : FVec Ideal S1024x128 .f32) bitsLt_bf16_f32
/-- Its reciprocal. -/
def invT (e : IVec S1024x128 32) : FVec Ideal S1024x128 .bf16 :=
  truncf .bf16 (bitcastToFloat .f32 (shli (subi (broadcast S1024x128 254#32) e) (broadcast S1024x128 23#32)) : FVec Ideal S1024x128 .f32) bitsLt_bf16_f32
/-- The codes of a tile. -/
def codeT (o : FVec Ideal S1024x128 .bf16) : FVec Ideal S1024x128 .fp8e4m3 :=
  truncf .fp8e4m3 (minimumf (broadcast S1024x128 (Scalar.ofBits .bf16 0x43E0#16)) (maximumf (broadcast S1024x128 (Scalar.ofBits .bf16 0xC3E0#16)) (mulf o (invT (expT (amaxT o)))))) bitsLt_fp8e4m3_bf16

/-- Lane `j` of the scales' block takes tile `j`'s scale, the other lanes keep what they hold. -/
def laneT (j : BitVec 32) (o : FVec Ideal S1024x128 .bf16) (ys : FVec Ideal S1024x4 .f32) : FVec Ideal S1024x4 .f32 :=
  select (cmpi .eq (iota .tc S1024x4 32 [1]) (broadcast S1024x4 j))
    (broadcastTo S1024x4 (shapeCast S1024x1 (extractStridedSlice S1024x1 ![0, 0] (extf .f32 (scaleT (expT (amaxT o))) bitsLt_bf16_f32 : FVec Ideal S1024x128 .f32) slices_S1024x128_o0_0_S1024x1) shapeCasts_S1024x1_S1024x1) broadcasts_S1024x1_S1024x4) ys

variable (c : Dev nD) (i : grid0.Coords) (arg3 : Memref sig .tc .smem S144x56 .f32) (harg3 : arg3.IsWhole) (arg4 : Memref sig .tc .vmem S1024x2048 .bf16) (harg4 : arg4.IsWhole) (arg5 : Memref sig .tc .vmem S1024x256 .bf16) (harg5 : arg5.IsWhole) (arg6 : Memref sig .tc .vmem S2048x512 .fp8e4m3) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .fp8e4m3) (harg11 : arg11.IsWhole) (arg12 : Memref sig .tc .vmem S1x1024x4 .f32) (harg12 : arg12.IsWhole) (arg13 : Memref sig .tc .vmem S1024x512 .f32) (harg13 : arg13.IsWhole)
  (x0 : Vec Ideal S144x56 .f32) (x1 : Vec Ideal S1024x2048 .bf16) (x2 : Vec Ideal S1024x256 .bf16) (x3 : Vec Ideal S2048x512 .fp8e4m3) (x4 : Vec Ideal S256x512 .bf16) (x5 : Vec Ideal S1x512 .f32) (x6 : Vec Ideal S1024x512 .bf16) (xs0 : Vec Ideal S1024x512 .f32)
end Cert.KernelIdeal.Val
-- ==== Proof.Acc.lean ====
module
public import proofs.«01_k».proof.Proof.Host
public import proofs.«01_k».proof.Proof.Block
public import proofs.«01_k».proof.Proof.Quant
public import Idealize.ShloMosaic.Lib.MatmulPlain
@[expose] public section
noncomputable section
namespace Cert.KernelIdeal.Val
open Idealize.ShloMosaic Idealize.ShloMosaic.TcCoe Idealize.ShloMosaic.Tactic Idealize.SL.Sem
open Cert.KernelIdeal Cert.KernelIdeal.Gen
open Cert.Lin
variable (m : (ℓ : Loc nD τ sig) → Buf (Elt Ideal) ℓ) (c : Dev nD)

/-- The array row and column that a block's row and column stand for at point `t`. -/
abbrev rowOf (t r : ℕ) : ℕ := 1024 * (t / 126) + r
abbrev colOf (t n : ℕ) : ℕ := 512 * (t / 9 % 14) + n

/-- The product of a point's activation block with its dequantised weight block. -/
theorem mulQ (t : Fin cfg0.N) (r : Fin 1024) (n : Fin 512) :
    (matmul dot_S1024x2048_S2048x512_S1024x512_1_0_0_1_n_n none (φ₁ := .bf16) (iblk m c 1 t) (wblkAt (iblk m c 0 t) (iblk m c 3 t) (grid0.coords t)) (constant (F := Ideal) S1024x512 .f32 0x00000000#32) : FVec Ideal S1024x512 .f32) (ix2 r n)
      = ∑ p ∈ Finset.range 2048, term (aX m c) (aW m c) (aS m c) (rowOf t.val r.val) (colOf t.val n.val) (2048 * (t.val % 9) + p) := by
  refine (plain_ix (M := 1024) (K := 2048) (N := 512) (φ := .bf16) (ψ := .bf16) _ _ r n).trans ?_
  rw [Finset.sum_range]
  refine Finset.sum_congr rfl fun k _ => ?_
  rw [wblkAt_apply, iblk1, iblk3, iblk0]
  obtain ⟨e0, e1, e2⟩ := coords_eq t
  unfold term
  rw [e1, e2]
  have h1 : (2048 * (t.val % 9) + k.val) / 128 = t.val % 9 * 16 + k.val / 128 := by omega
  have h2 : colOf t.val n.val / 128 = t.val / 9 % 14 * 4 + n.val / 128 := by unfold colOf; omega
  rw [h1, h2]

/-- The product of a row block's outlier columns with the outlier rows of the weight. -/
theorem mulO (t : Fin cfg0.N) (r : Fin 1024) (n : Fin 512) :
    (matmul dot_S1024x256_S256x512_S1024x512_1_0_0_1_n_n none (φ₁ := .bf16) (φ₂ := .bf16) (iblk m c 2 t) (iblk m c 4 t) (constant (F := Ideal) S1024x512 .f32 0x00000000#32) : FVec Ideal S1024x512 .f32) (ix2 r n)
      = ∑ k ∈ Finset.range 208, aXO m c (rowOf t.val r.val) k * aWO m c k (colOf t.val n.val) := by
  refine (plain_ix (M := 1024) (K := 256) (N := 512) (φ := .bf16) (ψ := .bf16) _ _ r n).trans ?_
  rw [← sum_pad (fun k => aXO m c (rowOf t.val r.val) k * aWO m c k (colOf t.val n.val)), Finset.sum_range]
  · refine Finset.sum_congr rfl fun k _ => ?_
    rw [iblk2, iblk4]
  · intro k hk
    show at2 _ _ _ _ _ * _ = _
    rw [at2_col _ hk, zero_mul]

/-- What the scratch holds at row `r`, column `n` of its block after point `t`: the outlier product and the chunks so far. -/
def part (t r n : ℕ) : EReal :=
  (∑ k ∈ Finset.range 208, aXO m c (rowOf t r) k * aWO m c k (colOf t n))
    + ∑ k ∈ Finset.range (t % 9 + 1), ∑ p ∈ Finset.range 2048, term (aX m c) (aW m c) (aS m c) (rowOf t r) (colOf t n) (2048 * k + p)

theorem part_succ (t r n : ℕ) (h : t % 9 ≠ 0) :
    part m c t r n = part m c (t - 1) r n + ∑ p ∈ Finset.range 2048, term (aX m c) (aW m c) (aS m c) (rowOf t r) (colOf t n) (2048 * (t % 9) + p) := by
  unfold part rowOf colOf
  have h1 : (t - 1) / 126 = t / 126 := by omega
  have h2 : (t - 1) / 9 = t / 9 := by omega
  have h3 : (t - 1) % 9 + 1 = t % 9 := by omega
  rw [h1, h2, h3, Finset.sum_range_succ _ (t % 9), add_assoc]

theorem scratch_apply (n : ℕ) (hn : n < cfg0.N) (h8 : n % 9 ≠ 8) (r : Fin 1024) (q : Fin 512) :
    (outsAt0 m c n hn).2.2.2 (ix2 r q) = part m c n r.val q.val := by
  induction n using Nat.strong_induction_on with
  | _ n ih =>
    by_cases h0 : n % 9 = 0
    · rw [show outsAt0 m c n hn = outsAt0 m c (⟨n, hn⟩ : Fin cfg0.N).val (⟨n, hn⟩ : Fin cfg0.N).isLt from rfl, outsAt0_A m c ⟨n, hn⟩ h0 h8]
      dsimp only
      rw [accA]
      refine (congrArg₂ (· + ·) (mulO m c ⟨n, hn⟩ r q) (mulQ m c ⟨n, hn⟩ r q)).trans ?_
      unfold part
      simp [h0]
    · rw [show outsAt0 m c n hn = outsAt0 m c (⟨n, hn⟩ : Fin cfg0.N).val (⟨n, hn⟩ : Fin cfg0.N).isLt from rfl, outsAt0_B m c ⟨n, hn⟩ h0 h8]
      dsimp only
      rw [accB, part_succ m c n r.val q.val h0]
      exact congrArg₂ (· + ·) (ih (n - 1) (by omega) _ (by omega)) (mulQ m c ⟨n, hn⟩ r q)

/-- The scratch when the last chunk is added: the whole sum. -/
theorem accAt_apply (t : Fin cfg0.N) (h8 : t.val % 9 = 8) (r : Fin 1024) (q : Fin 512) :
    accAt (iblk m c 0 t) (iblk m c 1 t) (iblk m c 3 t) (grid0.coords t) (outsAt0 m c (t.val - 1) (Nat.lt_of_le_of_lt (Nat.sub_le _ _) t.isLt)).2.2.2 (ix2 r q)
      = (∑ k ∈ Finset.range 208, aXO m c (rowOf t.val r.val) k * aWO m c k (colOf t.val q.val))
        + ∑ k ∈ Finset.range 18432, term (aX m c) (aW m c) (aS m c) (rowOf t.val r.val) (colOf t.val q.val) k := by
  unfold accAt
  refine (congrArg₂ (· + ·) (scratch_apply m c (t.val - 1) _ (by omega) r q) (mulQ m c t r q)).trans ?_
  rw [← part_succ m c t.val r.val q.val (by omega)]
  unfold part
  rw [h8, sum_chunks]

/-- Column tile `j` of the output block at row `r`, lane `l`. -/
theorem outT_apply (t : Fin cfg0.N) (h8 : t.val % 9 = 8) (j : Fin 4) (r : Fin 1024) (l : Fin 128) :
    outT (accAt (iblk m c 0 t) (iblk m c 1 t) (iblk m c 3 t) (grid0.coords t) (outsAt0 m c (t.val - 1) (Nat.lt_of_le_of_lt (Nat.sub_le _ _) t.isLt)).2.2.2)
        (iblk m c 5 t) (iblk m c 6 t) j (ix2 r l)
      = out (aX m c) (aXO m c) (aWO m c) (aW m c) (aS m c) (aB m c) (aR m c) (rowOf t.val r.val) (colOf t.val (128 * j.val + l.val)) := by
  have hj := j.isLt
  have hl := l.isLt
  have eA := accAt_apply m c t h8 r ⟨128 * j.val + l.val, by omega⟩
  unfold outT k0_pay3
  pointwise
  rw [eA, iblk5, iblk6]
  unfold out
  rw [add_comm (∑ k ∈ Finset.range 208, _)]
end Cert.KernelIdeal.Val
-- ==== Proof.OutC.lean ====
module
public import proofs.«01_k».proof.Proof.Quant
public import Idealize.ShloMosaic.Lib.Pipeline.ReadBack
@[expose] public section
noncomputable section
namespace Cert.KernelIdeal.Val
open Idealize.ShloMosaic Idealize.ShloMosaic.TcCoe Idealize.ShloMosaic.Tactic Idealize.SL.Sem
open Cert.KernelIdeal Cert.KernelIdeal.Gen
variable (c : Dev nD) (i : grid0.Coords) (arg3 : Memref sig .tc .smem S144x56 .f32) (harg3 : arg3.IsWhole) (arg4 : Memref sig .tc .vmem S1024x2048 .bf16) (harg4 : arg4.IsWhole) (arg5 : Memref sig .tc .vmem S1024x256 .bf16) (harg5 : arg5.IsWhole) (arg6 : Memref sig .tc .vmem S2048x512 .fp8e4m3) (harg6 : arg6.IsWhole) (arg7 : Memref sig .tc .vmem S256x512 .bf16) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .fp8e4m3) (harg11 : arg11.IsWhole) (arg12 : Memref sig .tc .vmem S1x1024x4 .f32) (harg12 : arg12.IsWhole) (arg13 : Memref sig .tc .vmem S1024x512 .f32) (harg13 : arg13.IsWhole)
  (x0 : Vec Ideal S144x56 .f32) (x1 : Vec Ideal S1024x2048 .bf16) (x2 : Vec Ideal S1024x256 .bf16) (x3 : Vec Ideal S2048x512 .fp8e4m3) (x4 : Vec Ideal S256x512 .bf16) (x5 : Vec Ideal S1x512 .f32) (x6 : Vec Ideal S1024x512 .bf16) (xs0 : Vec Ideal S1024x512 .f32)

set_option maxRecDepth 16384 in
set_option maxHeartbeats 1000000 in
theorem out0_C_7_eq (hc0 : ¬cond0_0 i) (hc1 : cond0_1 i) : out0_C_7 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xs0 =
    View.canon (Val := Elt Ideal) (s := S1024x512) (e := .bf16) [⟨Rect.unit (s := S1024x512) ![0, 384] ![1024, 128] inb_S1024x512_S1024x128_0_384, outT (accAt x0 x1 x3 i xs0) x5 x6 3⟩, ⟨Rect.unit (s := S1024x512) ![0, 256] ![1024, 128] inb_S1024x512_S1024x128_0_256, outT (accAt x0 x1 x3 i xs0) x5 x6 2⟩, ⟨Rect.unit (s := S1024x512) ![0, 128] ![1024, 128] inb_S1024x512_S1024x128_0_128, outT (accAt x0 x1 x3 i xs0) x5 x6 1⟩, ⟨Rect.unit (s := S1024x512) ![0, 0] ![1024, 128] inb_S1024x512_S1024x128_0_0, outT (accAt x0 x1 x3 i xs0) x5 x6 0⟩] := by
  unfold out0_C_7
  rw [View.read_writes_eq_canon _ _ _ (cover0_C_7 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xs0)]
  unfold kernelRun0_C
  dsimp only
  sl_unfold_words
  simp only [View.readAt_eq_ld]
  rw [harg3.read_unread x0, harg6.read_unread x3, harg4.read_unread x1, harg8.read_unread x5, harg9.read_unread x6, harg13.read_unread xs0, View.ld_unit_zero (S := S1024x512) hz, View.ld_unit_zero (S := S1024x2048) hz, pay119_eq]
  rw [View.readCov_fill (s := S1024x512) _ inb_S1024x512_S1024x512_0_0 _ [] _ (fun a => by fin_cases a <;> rfl), View.readCov_fill (s := S1024x512) _ inb_S1024x512_S1024x512_0_0 _ [] _ (fun a => by fin_cases a <;> rfl), View.readCov_fill (s := S1024x512) _ inb_S1024x512_S1024x512_0_0 _ [] _ (fun a => by fin_cases a <;> rfl), View.readCov_fill (s := S1024x512) _ inb_S1024x512_S1024x512_0_0 _ [] _ (fun a => by fin_cases a <;> rfl)]
  rfl

set_option maxRecDepth 16384 in
set_option maxHeartbeats 1000000 in
theorem out0_C_8_eq (hc0 : ¬cond0_0 i) (hc1 : cond0_1 i) : out0_C_8 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xs0 =
    View.canon (Val := Elt Ideal) (s := S1024x512) (e := .fp8e4m3) [⟨Rect.unit (s := S1024x512) ![0, 384] ![1024, 128] inb_S1024x512_S1024x128_0_384, codeT (outT (accAt x0 x1 x3 i xs0) x5 x6 3)⟩, ⟨Rect.unit (s := S1024x512) ![0, 256] ![1024, 128] inb_S1024x512_S1024x128_0_256, codeT (outT (accAt x0 x1 x3 i xs0) x5 x6 2)⟩, ⟨Rect.unit (s := S1024x512) ![0, 128] ![1024, 128] inb_S1024x512_S1024x128_0_128, codeT (outT (accAt x0 x1 x3 i xs0) x5 x6 1)⟩, ⟨Rect.unit (s := S1024x512) ![0, 0] ![1024, 128] inb_S1024x512_S1024x128_0_0, codeT (outT (accAt x0 x1 x3 i xs0) x5 x6 0)⟩] := by
  unfold out0_C_8
  rw [View.read_writes_eq_canon _ _ _ (cover0_C_8 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xs0)]
  unfold kernelRun0_C
  dsimp only
  sl_unfold_words
  simp only [View.readAt_eq_ld]
  rw [harg3.read_unread x0, harg6.read_unread x3, harg4.read_unread x1, harg8.read_unread x5, harg9.read_unread x6, harg13.read_unread xs0, View.ld_unit_zero (S := S1024x512) hz, View.ld_unit_zero (S := S1024x2048) hz, pay119_eq]
  rw [View.readCov_fill (s := S1024x512) _ inb_S1024x512_S1024x512_0_0 _ [] _ (fun a => by fin_cases a <;> rfl), View.readCov_fill (s := S1024x512) _ inb_S1024x512_S1024x512_0_0 _ [] _ (fun a => by fin_cases a <;> rfl), View.readCov_fill (s := S1024x512) _ inb_S1024x512_S1024x512_0_0 _ [] _ (fun a => by fin_cases a <;> rfl), View.readCov_fill (s := S1024x512) _ inb_S1024x512_S1024x512_0_0 _ [] _ (fun a => by fin_cases a <;> rfl)]
  rfl

theorem hz3 : (![0, 0, 0] : Fin 3 → Nat) = fun _ => 0 := funext fun a => by fin_cases a <;> rfl

set_option maxRecDepth 16384 in
set_option maxHeartbeats 1000000 in
theorem out0_C_9_eq (hc0 : ¬cond0_0 i) (hc1 : cond0_1 i) : out0_C_9 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xs0 =
    shapeCast S1x1024x4 (laneT 3#32 (outT (accAt x0 x1 x3 i xs0) x5 x6 3) (laneT 2#32 (outT (accAt x0 x1 x3 i xs0) x5 x6 2) (laneT 1#32 (outT (accAt x0 x1 x3 i xs0) x5 x6 1) (laneT 0#32 (outT (accAt x0 x1 x3 i xs0) x5 x6 0) (broadcast S1024x4 (Scalar.ofBits .f32 0x00000000#32)))))) shapeCasts_S1024x4_S1x1024x4 := by
  unfold out0_C_9
  rw [View.read_writes_eq_canon _ _ _ (cover0_C_9 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xs0)]
  unfold kernelRun0_C
  dsimp only
  sl_unfold_words
  simp only [View.readAt_eq_ld]
  rw [harg3.read_unread x0, harg6.read_unread x3, harg4.read_unread x1, harg8.read_unread x5, harg9.read_unread x6, harg13.read_unread xs0, View.ld_unit_zero (S := S1024x512) hz, View.ld_unit_zero (S := S1024x2048) hz, pay119_eq, View.canon_unit_zero (S := S1x1024x4) hz3]
  rw [View.readCov_fill (s := S1024x512) _ inb_S1024x512_S1024x512_0_0 _ [] _ (fun a => by fin_cases a <;> rfl), View.readCov_fill (s := S1024x512) _ inb_S1024x512_S1024x512_0_0 _ [] _ (fun a => by fin_cases a <;> rfl), View.readCov_fill (s := S1024x512) _ inb_S1024x512_S1024x512_0_0 _ [] _ (fun a => by fin_cases a <;> rfl), View.readCov_fill (s := S1024x512) _ inb_S1024x512_S1024x512_0_0 _ [] _ (fun a => by fin_cases a <;> rfl)]
  rfl
end Cert.KernelIdeal.Val
-- ==== Proof.Out7.lean ====
module
public import proofs.«01_k».proof.Proof.Acc
public import proofs.«01_k».proof.Proof.OutC
@[expose] public section
noncomputable section
namespace Cert.KernelIdeal.Val
open Idealize.ShloMosaic Idealize.ShloMosaic.TcCoe Idealize.ShloMosaic.Tactic Idealize.SL.Sem
open Cert.KernelIdeal Cert.KernelIdeal.Gen
open Cert.Lin
variable (m : (ℓ : Loc nD τ sig) → Buf (Elt Ideal) ℓ) (c : Dev nD)

/-- Four column tiles stored side by side, read at a column. -/
theorem canon4 {e : EltTy} (f : Fin 4 → Vec Ideal S1024x128 e) (r : Fin 1024) (q : Fin 512) :
    View.canon (Val := Elt Ideal) (s := S1024x512) (e := e)
      [⟨Rect.unit ![0, 384] ![1024, 128] inb_S1024x512_S1024x128_0_384, f 3⟩, ⟨Rect.unit ![0, 256] ![1024, 128] inb_S1024x512_S1024x128_0_256, f 2⟩,
       ⟨Rect.unit ![0, 128] ![1024, 128] inb_S1024x512_S1024x128_0_128, f 1⟩, ⟨Rect.unit ![0, 0] ![1024, 128] inb_S1024x512_S1024x128_0_0, f 0⟩] (ix2 r q)
      = f ⟨q.val / 128, by omega⟩ (ix2 r ⟨q.val % 128, Nat.mod_lt _ (by decide)⟩) := by
  canon_tiles x h
  · have h1' : q.val = 384 + (x 1).val := h1
    have h0' : r.val = (x 0).val := h0
    have ej : (⟨q.val / 128, by omega⟩ : Fin 4) = 3 := Fin.ext (by show q.val / 128 = 3; omega)
    rw [ej]
    refine congrArg (f 3) (funext fun a => Fin.ext ?_)
    match a with
    | ⟨0, _⟩ => exact h0'.symm
    | ⟨1, _⟩ => show (x 1).val = q.val % 128; omega
  · have h1' : q.val = 256 + (x 1).val := h1
    have h0' : r.val = (x 0).val := h0
    have ej : (⟨q.val / 128, by omega⟩ : Fin 4) = 2 := Fin.ext (by show q.val / 128 = 2; omega)
    rw [ej]
    refine congrArg (f 2) (funext fun a => Fin.ext ?_)
    match a with
    | ⟨0, _⟩ => exact h0'.symm
    | ⟨1, _⟩ => show (x 1).val = q.val % 128; omega
  · have h1' : q.val = 128 + (x 1).val := h1
    have h0' : r.val = (x 0).val := h0
    have ej : (⟨q.val / 128, by omega⟩ : Fin 4) = 1 := Fin.ext (by show q.val / 128 = 1; omega)
    rw [ej]
    refine congrArg (f 1) (funext fun a => Fin.ext ?_)
    match a with
    | ⟨0, _⟩ => exact h0'.symm
    | ⟨1, _⟩ => show (x 1).val = q.val % 128; omega
  · have h1' : q.val = 0 + (x 1).val := by rw [Nat.zero_add]; exact h1
    have h0' : r.val = (x 0).val := h0
    have ej : (⟨q.val / 128, by omega⟩ : Fin 4) = 0 := Fin.ext (by show q.val / 128 = 0; omega)
    rw [ej]
    refine congrArg (f 0) (funext fun a => Fin.ext ?_)
    match a with
    | ⟨0, _⟩ => exact h0'.symm
    | ⟨1, _⟩ => show (x 1).val = q.val % 128; omega

theorem accScr_lt (t : Fin cfg0.N) : t.val - 1 < cfg0.N := Nat.lt_of_le_of_lt (Nat.sub_le _ _) t.isLt

/-- Column tile `j` of the output block of point `t`. -/
def tile (t : Fin cfg0.N) (j : Fin 4) : FVec Ideal S1024x128 .bf16 :=
  outT (accAt (iblk m c 0 t) (iblk m c 1 t) (iblk m c 3 t) (grid0.coords t) (outsAt0 m c (t.val - 1) (accScr_lt t)).2.2.2) (iblk m c 5 t) (iblk m c 6 t) j

/-- The output at row `r`, column `n` of the arrays. -/
def outV (r n : ℕ) : EReal := out (aX m c) (aXO m c) (aWO m c) (aW m c) (aS m c) (aB m c) (aR m c) r n

theorem tile_apply (t : Fin cfg0.N) (h8 : t.val % 9 = 8) (j : Fin 4) (r : Fin 1024) (l : Fin 128) :
    tile m c t j (ix2 r l) = outV m c (rowOf t.val r.val) (colOf t.val (128 * j.val + l.val)) := outT_apply m c t h8 j r l

/-- The output block a row and column block's last point leaves. -/
theorem outs1_apply (t : Fin cfg0.N) (h8 : t.val % 9 = 8) (r : Fin 1024) (q : Fin 512) :
    (outsAt0 m c t.val t.isLt).1 (ix2 r q) = outV m c (rowOf t.val r.val) (colOf t.val q.val) := by
  rw [outsAt0_C m c t (by omega) h8]
  dsimp only
  rw [out0_C_7_eq]
  refine (canon4 (e := .bf16) (tile m c t) r q).trans ?_
  rw [tile_apply m c t h8]
  have : 128 * (q.val / 128) + q.val % 128 = q.val := by omega
  show outV m c _ (colOf t.val (128 * (q.val / 128) + q.val % 128)) = _
  rw [this]

/-- The point that writes a row's and column's block back. -/
def ptOf (R : Fin 8192) (C : Fin 7168) : Fin cfg0.N :=
  ⟨9 * (14 * (R.val / 1024) + C.val / 512) + 8, lt_of_lt_of_eq (by have := R.isLt; have := C.isLt; omega) N_0.symm⟩
theorem ptOf_mod (R : Fin 8192) (C : Fin 7168) : (ptOf R C).val % 9 = 8 := by show (9 * _ + 8) % 9 = 8; omega
theorem rowOf_ptOf (R : Fin 8192) (C : Fin 7168) : rowOf (ptOf R C).val (R.val % 1024) = R.val := by
  have := R.isLt; have := C.isLt
  show 1024 * ((9 * (14 * (R.val / 1024) + C.val / 512) + 8) / 126) + R.val % 1024 = R.val
  omega
theorem colOf_ptOf (R : Fin 8192) (C : Fin 7168) : colOf (ptOf R C).val (C.val % 512) = C.val := by
  have := R.isLt; have := C.isLt
  show 512 * ((9 * (14 * (R.val / 1024) + C.val / 512) + 8) / 9 % 14) + C.val % 512 = C.val
  omega

/-- The kernel's output array. -/
theorem G7_apply (R : Fin 8192) (C : Fin 7168) : Value.G7 m c (ix2 R C) = outV m c R.val C.val := by
  have hp : Value.pt7Of (ix2 R C) = (ptOf R C).val := by
    show 9 * (14 * (R.val / 1024 - 0) + 1 * (C.val / 512 - 0)) + 8 = 9 * (14 * (R.val / 1024) + C.val / 512) + 8
    omega
  unfold Value.G7
  rw [dif_pos (hp ▸ (ptOf R C).isLt)]
  rw [← Value.outsAt0_sweep m c _ (hp ▸ (ptOf R C).isLt)]
  have hl : Value.loc7Of (ix2 R C) = ix2 (⟨R.val % 1024, Nat.mod_lt _ (by decide)⟩ : Fin 1024) (⟨C.val % 512, Nat.mod_lt _ (by decide)⟩ : Fin 512) := by
    funext a
    match a with
    | ⟨0, _⟩ => rfl
    | ⟨1, _⟩ => rfl
  rw [hl]
  have e : ∀ (n : ℕ) (hn : n < cfg0.N) (n' : ℕ) (hn' : n' < cfg0.N), n = n' → outsAt0 m c n hn = outsAt0 m c n' hn' := by
    intro n hn n' hn' h; subst h; rfl
  rw [e _ _ _ (ptOf R C).isLt hp]
  refine (outs1_apply m c (ptOf R C) (ptOf_mod R C) _ _).trans ?_
  rw [rowOf_ptOf, colOf_ptOf]
end Cert.KernelIdeal.Val
-- ==== Proof.Scale.lean ====
module
public import Idealize.ShloMosaic.Lib.Claim
public import Idealize.ShloMosaic.Lib.Pipeline.ValueKit
@[expose] public section
noncomputable section
namespace Cert.Lin
open Idealize.ShloMosaic Idealize.ShloMosaic.TcCoe Idealize.ShloMosaic.Tactic

/-- A power of two written as an exponent field with nothing else: `2 ^ (b - 127)`, and zero at `b = 0`. -/
def pow2 (b : BitVec 32) : EReal := Ideal.ofBits .f32 (b <<< 23)

theorem pow2_bits (k : Fin 255) : ((BitVec.ofNat 32 k.val <<< 23).extractLsb' 31 1 == 1#1) = false ∧
    ((BitVec.ofNat 32 k.val <<< 23).extractLsb' 23 8).toNat = k.val ∧ ((BitVec.ofNat 32 k.val <<< 23).extractLsb' 0 23).toNat = 0 := by
  revert k
  decide +kernel

theorem pow2_nat (k : ℕ) (h1 : 1 ≤ k) (h2 : k ≤ 254) : pow2 (BitVec.ofNat 32 k) = (((2 : ℝ) ^ ((k : ℤ) - 127) : ℝ) : EReal) := by
  obtain ⟨a, b, c⟩ := pow2_bits ⟨k, by omega⟩
  simp only at a b c
  unfold pow2 Ideal.ofBits Ideal.ieee
  simp only [a, b, c]
  rw [if_neg (by omega), if_neg (by omega)]
  refine congrArg (fun x : ℝ => (x : EReal)) ?_
  have : ((k : ℤ) - (2 ^ (8 - 1) - 1) - (23 : ℕ)) = ((k : ℤ) - 127) + (-23) := by norm_num; ring
  rw [this, zpow_add₀ (by norm_num)]
  generalize (2 : ℝ) ^ ((k : ℤ) - 127) = y
  rw [if_neg Bool.false_ne_true]
  norm_num
  ring

theorem pow2_zero : pow2 (BitVec.ofNat 32 0) = 0 := by
  obtain ⟨a, b, c⟩ := pow2_bits ⟨0, by omega⟩
  simp only at a b c
  unfold pow2 Ideal.ofBits Ideal.ieee
  simp only [a, b, c]
  norm_num

theorem f32_448 : Ideal.ofBits .f32 0x43E00000#32 = ((448 : ℝ) : EReal) := by
  unfold Ideal.ofBits Ideal.ieee
  simp
  norm_num [zpow_neg]
  rw [← EReal.coe_mul]
  norm_num

theorem bf16_448 : Ideal.ofBits .bf16 0x43E0#16 = ((448 : ℝ) : EReal) := by
  unfold Ideal.ofBits Ideal.ieee
  simp
  norm_num [zpow_neg]
  rw [← EReal.coe_mul]
  norm_num

theorem f32_neg448 : Ideal.ofBits .f32 0xC3E00000#32 = ((-448 : ℝ) : EReal) := by
  unfold Ideal.ofBits Ideal.ieee
  simp
  norm_num [zpow_neg]
  rw [← EReal.coe_mul]
  norm_num

theorem bf16_neg448 : Ideal.ofBits .bf16 0xC3E0#16 = ((-448 : ℝ) : EReal) := by
  unfold Ideal.ofBits Ideal.ieee
  simp
  norm_num [zpow_neg]
  rw [← EReal.coe_mul]
  norm_num

theorem f32_126 : Ideal.ofBits .f32 0x42FC0000#32 = ((126 : ℝ) : EReal) := by
  unfold Ideal.ofBits Ideal.ieee
  simp
  norm_num [zpow_neg]
  rw [← EReal.coe_mul]
  norm_num

theorem f32_neg126 : Ideal.ofBits .f32 0xC2FC0000#32 = ((-126 : ℝ) : EReal) := by
  unfold Ideal.ofBits Ideal.ieee
  simp
  norm_num [zpow_neg]
  rw [← EReal.coe_mul]
  norm_num

theorem f32_bot : Ideal.ofBits .f32 0xFF800000#32 = ⊥ := by
  unfold Ideal.ofBits Ideal.ieee
  simp

theorem bf16_bot : Ideal.ofBits .bf16 0xFF80#16 = ⊥ := by
  unfold Ideal.ofBits Ideal.ieee
  simp

/-- What the maximum of a block is compared with at exponent field `k`: `448 · 2 ^ (k - 127)`. -/
def thr (k : ℕ) : EReal := ((448 : ℝ) : EReal) * pow2 (BitVec.ofNat 32 k)

/-- One step of the kernel's search: the exponent raised by `b` when the maximum still reaches it. -/
def stepS (a : EReal) (b e : BitVec 32) : BitVec 32 := if ((448 : ℝ) : EReal) * pow2 (e + b - 1#32) ≤ a then e + b else e

/-- Where the search stands when steps of `2 ^ s` and more are done. -/
def Found (a : EReal) (s : ℕ) (e : BitVec 32) : Prop :=
  ∃ n : ℕ, e = BitVec.ofNat 32 n ∧ n + 2 ^ s ≤ 256 ∧ (n = 0 ∨ thr (n - 1) ≤ a) ∧ (n + 2 ^ s = 256 ∨ ¬ thr (n + 2 ^ s - 1) ≤ a)

theorem Found.step {a : EReal} {s : ℕ} {e : BitVec 32} (hs : s ≤ 7) (h : Found a (s + 1) e) : Found a s (stepS a (BitVec.ofNat 32 (2 ^ s)) e) := by
  obtain ⟨n, rfl, hn, h1, h2⟩ := h
  have hp : 0 < 2 ^ s := Nat.pos_of_ne_zero (by positivity)
  rw [pow_succ] at hn h2
  have e1 : BitVec.ofNat 32 n + BitVec.ofNat 32 (2 ^ s) = BitVec.ofNat 32 (n + 2 ^ s) := by
    rw [BitVec.ofNat_add]
  have e2 : BitVec.ofNat 32 (n + 2 ^ s) - 1#32 = BitVec.ofNat 32 (n + 2 ^ s - 1) := by
    apply BitVec.eq_of_toNat_eq
    simp only [BitVec.toNat_sub, BitVec.toNat_ofNat]
    omega
  unfold stepS
  rw [e1, e2]
  change Found a s (if thr (n + 2 ^ s - 1) ≤ a then _ else _)
  split_ifs with h
  · exact ⟨n + 2 ^ s, rfl, by omega, Or.inr h, by rw [show n + 2 ^ s + 2 ^ s = n + 2 ^ s * 2 by ring]; exact h2⟩
  · exact ⟨n, rfl, by omega, h1, Or.inr h⟩

/-- The kernel's exponent field for a block of maximum `a`. -/
def searchS (a : EReal) : BitVec 32 :=
  stepS a 1#32 (stepS a 2#32 (stepS a 4#32 (stepS a 8#32 (stepS a 16#32 (stepS a 32#32 (stepS a 64#32 (stepS a 128#32 0#32)))))))

def expS (a : EReal) : BitVec 32 := if a = 0 then 127#32 else IntOp.minsi (searchS a) 253#32

theorem found_search (a : EReal) : Found a 0 (searchS a) := by
  have h : Found a 8 0#32 := ⟨0, rfl, by norm_num, Or.inl rfl, Or.inl (by norm_num)⟩
  exact ((((((((h.step (s := 7) (by omega)).step (s := 6) (by omega)).step (s := 5) (by omega)).step (s := 4) (by omega)).step (s := 3) (by omega)).step (s := 2)
    (by omega)).step (s := 1) (by omega)).step (s := 0) (by omega))

/-- The reference's exponent for a block of maximum `a`. -/
def expR (a : EReal) : EReal :=
  if a = 0 then 0 else min ((126 : ℝ) : EReal) (max ((-126 : ℝ) : EReal)
    (Ideal.liftRound Int.floor (Ideal.div (Ideal.log (a * ((1 / 448 : ℝ) : EReal))) ((Real.log 2 : ℝ) : EReal)) + 1))

theorem le_floor_log (x : ℝ) (hx : 0 < x) (z : ℤ) : z ≤ ⌊Real.log x / Real.log 2⌋ ↔ (2 : ℝ) ^ z ≤ x := by
  rw [Int.le_floor, le_div_iff₀ (Real.log_pos (by norm_num)), ← Real.log_zpow, Real.log_le_log_iff (by positivity) hx]

theorem div_ln2 (y : ℝ) : Ideal.div (y : EReal) ((Real.log 2 : ℝ) : EReal) = ((y / Real.log 2 : ℝ) : EReal) := by
  have : Real.log 2 ≠ 0 := (Real.log_pos (by norm_num)).ne'
  unfold Ideal.div
  rw [if_neg (by exact_mod_cast this), ← EReal.coe_inv, ← EReal.coe_mul, div_eq_mul_inv]

theorem thr_nat (k : ℕ) (h1 : 1 ≤ k) (h2 : k ≤ 254) (r : ℝ) : thr k ≤ (r : EReal) ↔ (2 : ℝ) ^ ((k : ℤ) - 127) ≤ r * (1 / 448) := by
  unfold thr
  rw [pow2_nat k h1 h2, ← EReal.coe_mul, EReal.coe_le_coe_iff]
  constructor <;> intro h <;> linarith

theorem thr_zero : thr 0 = 0 := by unfold thr; rw [pow2_zero, mul_zero]

theorem minsi_nat (n : ℕ) (h : n ≤ 255) : IntOp.minsi (BitVec.ofNat 32 n) 253#32 = BitVec.ofNat 32 (min n 253) := by
  have : ∀ n : Fin 256, IntOp.minsi (BitVec.ofNat 32 n.val) 253#32 = BitVec.ofNat 32 (min n.val 253) := by decide +kernel
  exact this ⟨n, by omega⟩

/-- The search and the logarithm find the same exponent. -/
theorem exp_eq (a : EReal) (ha : 0 ≤ a) : ∃ k : ℕ, 1 ≤ k ∧ k ≤ 253 ∧ expS a = BitVec.ofNat 32 k ∧ expR a = ((((k : ℤ) - 127 : ℤ) : ℝ) : EReal) := by
  by_cases h0 : a = 0
  · exact ⟨127, by norm_num, by norm_num, by rw [expS, if_pos h0], by rw [expR, if_pos h0]; norm_num⟩
  obtain ⟨n, hs, hn, h1, h2⟩ := found_search a
  simp only [pow_zero] at hn h2
  have hn1 : 1 ≤ n := by
    by_contra hc
    have : n = 0 := by omega
    subst this
    rcases h2 with h2 | h2
    · omega
    · exact h2 (by rw [show 0 + 1 - 1 = 0 from rfl, thr_zero]; exact ha)
  refine ⟨min n 253, by omega, by omega, by rw [expS, if_neg h0, hs, minsi_nat n (by omega)], ?_⟩
  rw [expR, if_neg h0]
  induction a using EReal.rec with
  | bot => exact absurd ha (by simp)
  | top =>
    have : n = 255 := by
      rcases h2 with h2 | h2
      · omega
      · exact absurd le_top h2
    subst this
    rw [EReal.top_mul_coe_of_pos (by norm_num)]
    have : Ideal.div (Ideal.log ⊤) ((Real.log 2 : ℝ) : EReal) = ⊤ := by
      have hl : 0 < Real.log 2 := Real.log_pos (by norm_num)
      unfold Ideal.div Ideal.log
      rw [if_neg (by exact_mod_cast hl.ne'), ← EReal.coe_inv]
      exact EReal.top_mul_coe_of_pos (by positivity)
    rw [this]
    change min _ (max _ ((⊤ : EReal) + 1)) = _
    rw [show (⊤ : EReal) + 1 = ⊤ from EReal.top_add_of_ne_bot (EReal.coe_ne_bot 1), max_eq_right le_top, min_eq_left le_top]
    norm_num
  | coe r =>
    have hr : 0 < r := by
      rcases lt_or_eq_of_le (EReal.coe_nonneg.1 ha) with h | h
      · exact h
      · exact absurd (by rw [← h]; rfl) h0
    have hx : 0 < r * (1 / 448) := by positivity
    rw [← EReal.coe_mul]
    have hlog : Ideal.log ((r * (1 / 448) : ℝ) : EReal) = ((Real.log (r * (1 / 448)) : ℝ) : EReal) := by
      change (if _ then _ else _) = _
      rw [if_neg (not_le.2 hx)]
    rw [hlog, div_ln2]
    change min _ (max _ ((((⌊Real.log (r * (1 / 448)) / Real.log 2⌋ : ℤ) : ℝ) : EReal) + 1)) = _
    have hfl := le_floor_log (r * (1 / 448)) hx
    generalize ⌊Real.log (r * (1 / 448)) / Real.log 2⌋ = L at hfl ⊢
    have hlo : 2 ≤ n → (n : ℤ) - 128 ≤ L := fun h => by
      rw [hfl]
      rcases h1 with h1 | h1
      · omega
      · have := (thr_nat (n - 1) (by omega) (by omega) r).1 h1
        rwa [show (((n - 1 : ℕ) : ℤ) - 127) = (n : ℤ) - 128 by omega] at this
    have hhi : n ≤ 254 → L < (n : ℤ) - 127 := fun h => by
      rw [← not_le, hfl]
      rcases h2 with h2 | h2
      · omega
      · rw [show n + 1 - 1 = n by omega] at h2
        rwa [thr_nat n hn1 h r] at h2
    have hL : min (126 : ℤ) (max (-126) (L + 1)) = ((min n 253 : ℕ) : ℤ) - 127 := by omega
    rw [← hL]
    rw [show (1 : EReal) = ((1 : ℝ) : EReal) from rfl, ← EReal.coe_add, ← EReal.coe_strictMono.monotone.map_max, ← EReal.coe_strictMono.monotone.map_min]
    push_cast
    rfl

/-- The two scales, of equal exponents. -/
theorem scale_eq (a : EReal) (ha : 0 ≤ a) : pow2 (expS a) = Ideal.exp2 (expR a) := by
  obtain ⟨k, h1, h2, hs, hr⟩ := exp_eq a ha
  rw [hs, hr, pow2_nat k h1 (by omega)]
  change _ = ((Real.rpow 2 _ : ℝ) : EReal)
  congr 1
  exact (Real.rpow_intCast 2 _).symm

/-- The two factors the block is multiplied by. -/
theorem inv_eq (a : EReal) (ha : 0 ≤ a) : pow2 (254#32 - expS a) = Ideal.exp2 (0 - expR a) := by
  obtain ⟨k, h1, h2, hs, hr⟩ := exp_eq a ha
  have : 254#32 - BitVec.ofNat 32 k = BitVec.ofNat 32 (254 - k) := by
    apply BitVec.eq_of_toNat_eq
    simp only [BitVec.toNat_sub, BitVec.toNat_ofNat]
    omega
  rw [hs, hr, this, pow2_nat _ (by omega) (by omega), zero_sub, ← EReal.coe_neg]
  change _ = ((Real.rpow 2 _ : ℝ) : EReal)
  congr 1
  rw [show -(((k : ℤ) - 127 : ℤ) : ℝ) = (((254 - k : ℕ) : ℤ) - 127 : ℤ) by push_cast [Nat.cast_sub (show k ≤ 254 by omega)]; ring]
  exact (Real.rpow_intCast 2 _).symm

/-- The greatest magnitude of block `b` of row `r`. -/
def amax (f : ℕ → ℕ → EReal) (r b : ℕ) : EReal := Finset.fold max ⊥ (fun l : Fin 128 => max (f r (128 * b + l.val)) (-f r (128 * b + l.val))) Finset.univ

theorem amax_nonneg (f : ℕ → ℕ → EReal) (r b : ℕ) : 0 ≤ amax f r b := by
  unfold amax
  rw [Finset.le_fold_max]
  refine Or.inr ⟨0, Finset.mem_univ _, ?_⟩
  generalize f r (128 * b + (0 : Fin 128).val) = x
  rcases le_total 0 x with h | h
  · exact le_max_of_le_left h
  · exact le_max_of_le_right (EReal.neg_nonneg.2 h)

/-- The scale of block `b` of row `r`. -/
def scaleOf (f : ℕ → ℕ → EReal) (r b : ℕ) : EReal := Ideal.exp2 (expR (amax f r b))

/-- The code at row `r`, column `n`: the value over its block's scale, held within the format's range. -/
def codeOf (f : ℕ → ℕ → EReal) (r n : ℕ) : EReal :=
  min ((448 : ℝ) : EReal) (max ((-448 : ℝ) : EReal) (f r n * Ideal.exp2 (0 - expR (amax f r (n / 128)))))
end Cert.Lin
-- ==== Proof.Lane.lean ====
module
public import proofs.«01_k».proof.Proof.Quant
public import proofs.«01_k».proof.Proof.Spec
public import proofs.«01_k».proof.Proof.Scale
@[expose] public section
noncomputable section
namespace Cert.KernelIdeal.Val
open Idealize.ShloMosaic Idealize.ShloMosaic.TcCoe Idealize.ShloMosaic.Tactic Idealize.SL.Sem
open Cert.KernelIdeal Cert.KernelIdeal.Gen
open Cert.Lin
/-- The search a lane at a time. -/
theorem stepT_apply (a : FVec Ideal S1024x128 .f32) (b : BitVec 32) (e : IVec S1024x128 32) (r : Fin 1024) (l : Fin 128) :
    stepT a b e (ix2 r l) = stepS (a (ix2 r l)) b (e (ix2 r l)) := by
  unfold stepT
  pointwise
  rw [f32_448]
  rfl

theorem expT_apply (a : FVec Ideal S1024x128 .f32) (r : Fin 1024) (l : Fin 128) : expT a (ix2 r l) = expS (a (ix2 r l)) := by
  unfold expT
  pointwise
  simp only [stepT_apply]
  rfl

theorem amaxT_apply (o : FVec Ideal S1024x128 .bf16) (f : ℕ → ℕ → EReal) (r : Fin 1024) (l : Fin 128) (R b : ℕ)
    (ho : ∀ l : Fin 128, o (ix2 r l) = f R (128 * b + l.val)) : amaxT o (ix2 r l) = amax f R b := by
  unfold amaxT
  pointwise
  simp only [ho, bf16_bot]
  rfl

theorem codeT_apply (o : FVec Ideal S1024x128 .bf16) (f : ℕ → ℕ → EReal) (r : Fin 1024) (l : Fin 128) (R b : ℕ)
    (ho : ∀ l : Fin 128, o (ix2 r l) = f R (128 * b + l.val)) : codeT o (ix2 r l) = codeOf f R (128 * b + l.val) := by
  unfold codeT invT
  pointwise
  rw [expT_apply, amaxT_apply o f r l R b ho, bf16_448, bf16_neg448, ho l]
  unfold codeOf
  rw [show (128 * b + l.val) / 128 = b by have := l.isLt; omega, ← inv_eq _ (amax_nonneg f R b)]
  rfl

theorem laneT_apply (j : BitVec 32) (o : FVec Ideal S1024x128 .bf16) (ys : FVec Ideal S1024x4 .f32) (f : ℕ → ℕ → EReal) (r : Fin 1024) (l : Fin 4) (R b : ℕ)
    (ho : ∀ l : Fin 128, o (ix2 r l) = f R (128 * b + l.val)) :
    laneT j o ys (ix2 r l) = if BitVec.ofNat 32 l.val = j then scaleOf f R b else ys (ix2 r l) := by
  unfold laneT scaleT
  pointwise
  rw [expT_apply, amaxT_apply o f r 0 R b ho]
  unfold scaleOf
  rw [← scale_eq _ (amax_nonneg f R b)]
  unfold Scalar.select IntOp.cmpi
  by_cases h : BitVec.ofNat 32 l.val = j
  · rw [if_pos h]; simp [h]; rfl
  · have hb : (BitVec.ofNat 32 l.val == j) = false := by simpa using h
    rw [if_neg h]
    simp only [hb]
    rfl
end Cert.KernelIdeal.Val
-- ==== Proof.Out89.lean ====
module
public import proofs.«01_k».proof.Proof.Out7
public import proofs.«01_k».proof.Proof.Lane
@[expose] public section
noncomputable section
namespace Cert.KernelIdeal.Val
open Idealize.ShloMosaic Idealize.ShloMosaic.TcCoe Idealize.ShloMosaic.Tactic Idealize.SL.Sem
open Cert.KernelIdeal Cert.KernelIdeal.Gen
open Cert.Lin
variable (m : (ℓ : Loc nD τ sig) → Buf (Elt Ideal) ℓ) (c : Dev nD)

/-- The block of 128 columns a tile holds. -/
theorem colOf_tile (t j l : ℕ) : colOf t (128 * j + l) = 128 * (4 * (t / 9 % 14) + j) + l := by unfold colOf; omega

theorem tile_row (t : Fin cfg0.N) (h8 : t.val % 9 = 8) (j : Fin 4) (r : Fin 1024) (l : Fin 128) :
    tile m c t j (ix2 r l) = outV m c (rowOf t.val r.val) (128 * (4 * (t.val / 9 % 14) + j.val) + l.val) := by
  rw [tile_apply m c t h8, colOf_tile]

/-- The block of codes a row and column block's last point leaves. -/
theorem outs2_apply (t : Fin cfg0.N) (h8 : t.val % 9 = 8) (r : Fin 1024) (q : Fin 512) :
    (outsAt0 m c t.val t.isLt).2.1 (ix2 r q) = codeOf (outV m c) (rowOf t.val r.val) (colOf t.val q.val) := by
  rw [outsAt0_C m c t (by omega) h8]
  dsimp only
  rw [out0_C_8_eq]
  refine (canon4 (e := .fp8e4m3) (fun j => codeT (tile m c t j)) r q).trans ?_
  have hq : q.val / 128 < 4 := by have := q.isLt; omega
  refine (codeT_apply (tile m c t ⟨q.val / 128, hq⟩) (outV m c) r ⟨q.val % 128, Nat.mod_lt _ (by decide)⟩ (rowOf t.val r.val) (4 * (t.val / 9 % 14) + q.val / 128) (tile_row m c t h8 ⟨q.val / 128, hq⟩ r)).trans ?_
  refine congrArg (codeOf (outV m c) (rowOf t.val r.val)) ?_
  show 128 * (4 * (t.val / 9 % 14) + q.val / 128) + q.val % 128 = 512 * (t.val / 9 % 14) + q.val
  omega

/-- The block of scales it leaves. -/
theorem outs3_apply (t : Fin cfg0.N) (h8 : t.val % 9 = 8) (r : Fin 1024) (q : Fin 4) :
    (outsAt0 m c t.val t.isLt).2.2.1 (ix3 (0 : Fin 1) r q) = scaleOf (outV m c) (rowOf t.val r.val) (4 * (t.val / 9 % 14) + q.val) := by
  rw [outsAt0_C m c t (by omega) h8]
  dsimp only
  rw [out0_C_9_eq]
  have key : laneT 3#32 (tile m c t 3) (laneT 2#32 (tile m c t 2) (laneT 1#32 (tile m c t 1) (laneT 0#32 (tile m c t 0) (broadcast S1024x4 (Scalar.ofBits .f32 0x00000000#32))))) (ix2 r q)
      = scaleOf (outV m c) (rowOf t.val r.val) (4 * (t.val / 9 % 14) + q.val) := by
    rw [laneT_apply _ _ _ (outV m c) r q _ _ fun l => tile_row m c t h8 3 r l, laneT_apply _ _ _ (outV m c) r q _ _ fun l => tile_row m c t h8 2 r l,
      laneT_apply _ _ _ (outV m c) r q _ _ fun l => tile_row m c t h8 1 r l, laneT_apply _ _ _ (outV m c) r q _ _ fun l => tile_row m c t h8 0 r l]
    obtain ⟨q, hq⟩ := q
    have e : q = 0 ∨ q = 1 ∨ q = 2 ∨ q = 3 := by omega
    dsimp only
    rcases e with rfl | rfl | rfl | rfl
    · rw [if_neg (by decide), if_neg (by decide), if_neg (by decide), if_pos (by decide)]; rfl
    · rw [if_neg (by decide), if_neg (by decide), if_pos (by decide)]; rfl
    · rw [if_neg (by decide), if_pos (by decide)]; rfl
    · rw [if_pos (by decide)]; rfl
  refine Eq.trans ?_ key
  unfold tile
  generalize laneT 3#32 _ _ = z
  pointwise

theorem outsAt_congr (n : ℕ) (hn : n < cfg0.N) (n' : ℕ) (hn' : n' < cfg0.N) (h : n = n') : outsAt0 m c n hn = outsAt0 m c n' hn' := by
  subst h; rfl

/-- The kernel's array of codes. -/
theorem G8_apply (R : Fin 8192) (C : Fin 7168) : Value.G8 m c (ix2 R C) = codeOf (outV m c) R.val C.val := by
  have hp : Value.pt8Of (ix2 R C) = (ptOf R C).val := by
    show 9 * (14 * (R.val / 1024 - 0) + 1 * (C.val / 512 - 0)) + 8 = 9 * (14 * (R.val / 1024) + C.val / 512) + 8
    omega
  unfold Value.G8
  rw [dif_pos (hp ▸ (ptOf R C).isLt)]
  rw [← Value.outsAt0_sweep m c _ (hp ▸ (ptOf R C).isLt)]
  have hl : Value.loc8Of (ix2 R C) = ix2 (⟨R.val % 1024, Nat.mod_lt _ (by decide)⟩ : Fin 1024) (⟨C.val % 512, Nat.mod_lt _ (by decide)⟩ : Fin 512) := by
    funext a
    match a with
    | ⟨0, _⟩ => rfl
    | ⟨1, _⟩ => rfl
  rw [hl]
  rw [outsAt_congr m c _ _ _ (ptOf R C).isLt hp]
  refine (outs2_apply m c (ptOf R C) (ptOf_mod R C) _ _).trans ?_
  rw [rowOf_ptOf, colOf_ptOf]

/-- The kernel's array of scales. -/
theorem G9_apply (B : Fin 14) (R : Fin 8192) (q : Fin 4) : Value.G9 m c (ix3 B R q) = scaleOf (outV m c) R.val (4 * B.val + q.val) := by
  have hB := B.isLt
  have hR := R.isLt
  have hq := q.isLt
  obtain ⟨C, hC⟩ : ∃ C : Fin 7168, C.val = 512 * B.val := ⟨⟨512 * B.val, by omega⟩, rfl⟩
  have hp : Value.pt9Of (ix3 B R q) = (ptOf R C).val := by
    show 9 * (1 * (B.val / 1 - 0) + 14 * (R.val / 1024 - 0) + 112 * (q.val / 4 - 0)) + 8 = 9 * (14 * (R.val / 1024) + C.val / 512) + 8
    omega
  unfold Value.G9
  rw [dif_pos (hp ▸ (ptOf R C).isLt)]
  rw [← Value.outsAt0_sweep m c _ (hp ▸ (ptOf R C).isLt)]
  have hl : Value.loc9Of (ix3 B R q) = ix3 (0 : Fin 1) (⟨R.val % 1024, Nat.mod_lt _ (by decide)⟩ : Fin 1024) q := by
    funext a
    match a with
    | ⟨0, _⟩ => exact Fin.ext (Nat.mod_one _)
    | ⟨1, _⟩ => rfl
    | ⟨2, _⟩ => exact Fin.ext (Nat.mod_eq_of_lt hq)
  rw [hl]
  rw [outsAt_congr m c _ _ _ (ptOf R C).isLt hp]
  refine (outs3_apply m c (ptOf R C) (ptOf_mod R C) _ _).trans ?_
  rw [rowOf_ptOf]
  have : (ptOf R C).val / 9 % 14 = B.val := by
    show (9 * (14 * (R.val / 1024) + C.val / 512) + 8) / 9 % 14 = B.val
    omega
  rw [this]
end Cert.KernelIdeal.Val
-- ==== Proof.RefOut.lean ====
module
public import proofs.«01_k».proof.Proof.Spec
public import proofs.«01_k».proof.Proof.Gen.ReferenceIdeal.Value
public import Idealize.ShloMosaic.Lib.Claim
public import Idealize.ShloMosaic.Lib.Pipeline.ValueKit
@[expose] public section
noncomputable section
namespace Cert.ReferenceIdeal.Val
open Idealize.ShloMosaic Idealize.ShloMosaic.TcCoe Idealize.ShloMosaic.Tactic Idealize.SL.Sem
open Cert.ReferenceIdeal Cert.ReferenceIdeal.Gen
open Cert.Lin
variable (x0 : Vec Ideal S8192x18432 .bf16) (x1 : Vec Ideal S8192x208 .bf16) (x2 : Vec Ideal S208x7168 .bf16) (x3 : Vec Ideal S18432x7168 .fp8e4m3) (x4 : Vec Ideal S144x56 .f32) (x5 : Vec Ideal S1x7168 .f32) (x6 : Vec Ideal S8192x7168 .bf16)

/-- The output the reference's operands give at row `r`, column `n`. -/
def outX (r n : ℕ) : EReal := out (at2 8192 18432 x0) (at2 8192 208 x1) (at2 208 7168 x2) (at2 18432 7168 x3) (at2 144 56 x4) (at2 1 7168 x5) (at2 8192 7168 x6) r n

theorem pay4_apply (R : Fin 8192) (C : Fin 7168) : k0_pay4 x4 x3 x0 x1 x2 x5 x6 (ix2 R C) = outX x0 x1 x2 x3 x4 x5 x6 R.val C.val := by
  unfold k0_pay4
  simp only [shapeCast_self]
  pointwise
  unfold outX out term
  rw [Finset.sum_range, Finset.sum_range]
  have hC := C.isLt
  refine congrArg₂ (· + ·) (congrArg₂ (· + ·) (congrArg₂ (· + ·) (Finset.sum_congr rfl fun k _ => ?_) (Finset.sum_congr rfl fun k _ => ?_)) ?_) ?_
  · have hk := k.isLt
    rw [at2_ix, at2_ix, at2_of x4 (r := k.val / 128) (c := C.val / 128) (by omega) (by omega)]
  · rw [at2_ix, at2_ix]
  · exact (at2_ix x5 0 C).symm
  · rw [at2_ix]

theorem hz2 : (![0, 0] : Fin 2 → Nat) = fun _ => 0 := funext fun a => by fin_cases a <;> rfl
theorem hz3 : (![0, 0, 0] : Fin 3 → Nat) = fun _ => 0 := funext fun a => by fin_cases a <;> rfl

theorem out0_7_eq : out0_7 x0 x1 x2 x3 x4 x5 x6 = k0_pay4 x4 x3 x0 x1 x2 x5 x6 := by
  unfold_out out0_7
  rw [View.canon_unit_zero hz2, View.ld_unit_zero (S := S144x56) hz2, View.ld_unit_zero (S := S18432x7168) hz2, View.ld_unit_zero (S := S8192x18432) hz2, View.ld_unit_zero (S := S8192x208) hz2,
    View.ld_unit_zero (S := S208x7168) hz2, View.ld_unit_zero (S := S1x7168) hz2, View.ld_unit_zero (S := S8192x7168) hz2]

variable (m : (ℓ : Loc nD τ sig) → Buf (Elt Ideal) ℓ) (c : Dev nD)

/-- The reference's operands: the arguments, those of three axes with their first two axes as one, the bias as a row. -/
abbrev op0 : S8192x18432.Idx → EReal := shapeCast S8192x18432 (m ((c : Thread nD τ).loc main_arg0)) shapeCasts_S2x4096x18432_S8192x18432
abbrev op1 : S8192x208.Idx → EReal := shapeCast S8192x208 (m ((c : Thread nD τ).loc main_arg1)) shapeCasts_S2x4096x208_S8192x208
abbrev op2 : S208x7168.Idx → EReal := m ((c : Thread nD τ).loc main_arg2)
abbrev op3 : S18432x7168.Idx → EReal := m ((c : Thread nD τ).loc main_arg3)
abbrev op4 : S144x56.Idx → EReal := m ((c : Thread nD τ).loc main_arg4)
abbrev op5 : S1x7168.Idx → EReal := shapeCast S1x7168 (m ((c : Thread nD τ).loc main_arg5)) shapeCasts_S7168_S1x7168
abbrev op6 : S8192x7168.Idx → EReal := shapeCast S8192x7168 (m ((c : Thread nD τ).loc main_arg6)) shapeCasts_S2x4096x7168_S8192x7168
theorem iblk0 (t : Fin cfg0.N) : (iblk m c 0 t : S8192x18432.Idx → EReal) = op0 m c := by
  refine Eq.trans (b := V m c main_v0) (funext fun y => ?_) ?_
  · unfold iblk
    blk_simp
    exact congrArg (V m c main_v0) (funext fun a => Fin.ext (Pipeline.Window.rect_emb_val_of_index_zero win0_0 t a rfl y))
  · entry_read; rfl
theorem iblk1 (t : Fin cfg0.N) : (iblk m c 1 t : S8192x208.Idx → EReal) = op1 m c := by
  refine Eq.trans (b := V m c main_v1) (funext fun y => ?_) ?_
  · unfold iblk
    blk_simp
    exact congrArg (V m c main_v1) (funext fun a => Fin.ext (Pipeline.Window.rect_emb_val_of_index_zero win0_1 t a rfl y))
  · entry_read; rfl
theorem iblk2 (t : Fin cfg0.N) : (iblk m c 2 t : S208x7168.Idx → EReal) = op2 m c := by
  refine Eq.trans (b := V m c main_arg2) (funext fun y => ?_) ?_
  · unfold iblk
    blk_simp
    exact congrArg (V m c main_arg2) (funext fun a => Fin.ext (Pipeline.Window.rect_emb_val_of_index_zero win0_2 t a rfl y))
  · exact V_main_arg2 m c
theorem iblk3 (t : Fin cfg0.N) : (iblk m c 3 t : S18432x7168.Idx → EReal) = op3 m c := by
  refine Eq.trans (b := V m c main_arg3) (funext fun y => ?_) ?_
  · unfold iblk
    blk_simp
    exact congrArg (V m c main_arg3) (funext fun a => Fin.ext (Pipeline.Window.rect_emb_val_of_index_zero win0_3 t a rfl y))
  · exact V_main_arg3 m c
theorem iblk4 (t : Fin cfg0.N) : (iblk m c 4 t : S144x56.Idx → EReal) = op4 m c := by
  refine Eq.trans (b := V m c main_arg4) (funext fun y => ?_) ?_
  · unfold iblk
    blk_simp
    exact congrArg (V m c main_arg4) (funext fun a => Fin.ext (Pipeline.Window.rect_emb_val_of_index_zero win0_4 t a rfl y))
  · exact V_main_arg4 m c
theorem iblk5 (t : Fin cfg0.N) : (iblk m c 5 t : S1x7168.Idx → EReal) = op5 m c := by
  refine Eq.trans (b := V m c main_v2) (funext fun y => ?_) ?_
  · unfold iblk
    blk_simp
    exact congrArg (V m c main_v2) (funext fun a => Fin.ext (Pipeline.Window.rect_emb_val_of_index_zero win0_5 t a rfl y))
  · entry_read; rfl
theorem iblk6 (t : Fin cfg0.N) : (iblk m c 6 t : S8192x7168.Idx → EReal) = op6 m c := by
  refine Eq.trans (b := V m c main_v3) (funext fun y => ?_) ?_
  · unfold iblk
    blk_simp
    exact congrArg (V m c main_v3) (funext fun a => Fin.ext (Pipeline.Window.rect_emb_val_of_index_zero win0_6 t a rfl y))
  · entry_read; rfl

theorem arr7 : (dats m 0 c).arrAt 7 cfg0.N = k0_pay4 (F := Ideal) (op4 m c) (op3 m c) (op0 m c) (op1 m c) (op2 m c) (op5 m c) (op6 m c) := by
  refine (dats m 0 c).arrAt_eq_of_covers 7 _ (by decide +kernel) fun t hf y => ?_
  blk_simp
  rw [after0_7]
  rw [out0_7_eq, iblk0, iblk1, iblk2, iblk3, iblk4, iblk5, iblk6]
  exact congrArg (k0_pay4 (F := Ideal) (op4 m c) (op3 m c) (op0 m c) (op1 m c) (op2 m c) (op5 m c) (op6 m c)) (funext fun a => Fin.ext (Pipeline.Window.rect_emb_val_of_index_zero win0_7 t a rfl y).symm)

/-- The reference's output array. -/
theorem arr7_apply (R : Fin 8192) (C : Fin 7168) : (dats m 0 c).arrAt 7 cfg0.N (ix2 R C) =
    outX (op0 m c) (op1 m c) (op2 m c) (op3 m c) (op4 m c) (op5 m c) (op6 m c) R.val C.val := by
  rw [arr7]
  exact pay4_apply (op0 m c) (op1 m c) (op2 m c) (op3 m c) (op4 m c) (op5 m c) (op6 m c) R C
end Cert.ReferenceIdeal.Val
-- ==== Proof.RefCodes.lean ====
module
public import proofs.«01_k».proof.Proof.RefOut
public import proofs.«01_k».proof.Proof.Scale
@[expose] public section
noncomputable section
namespace Cert.ReferenceIdeal.Val
open Idealize.ShloMosaic Idealize.ShloMosaic.TcCoe Idealize.ShloMosaic.Tactic Idealize.SL.Sem
open Cert.ReferenceIdeal Cert.ReferenceIdeal.Gen
open Cert.Lin
variable (x0 : Vec Ideal S8192x18432 .bf16) (x1 : Vec Ideal S8192x208 .bf16) (x2 : Vec Ideal S208x7168 .bf16) (x3 : Vec Ideal S18432x7168 .fp8e4m3) (x4 : Vec Ideal S144x56 .f32) (x5 : Vec Ideal S1x7168 .f32) (x6 : Vec Ideal S8192x7168 .bf16)

theorem pay5_apply (R : Fin 8192) (b : Fin 56) (l : Fin 128) : k0_pay5 x4 x3 x0 x1 x2 x5 x6 (ix3 R b l) = outX x0 x1 x2 x3 x4 x5 x6 R.val (128 * b.val + l.val) := by
  unfold k0_pay5
  have hb := b.isLt
  have hl := l.isLt
  have h := pay4_apply x0 x1 x2 x3 x4 x5 x6 R ⟨128 * b.val + l.val, by omega⟩
  generalize k0_pay4 x4 x3 x0 x1 x2 x5 x6 = z at h ⊢
  pointwise
  refine Eq.trans (congrArg z (congrArg (ix2 R) (Fin.ext ?_))) h
  show b.val * 128 + l.val = 128 * b.val + l.val
  omega

theorem pay6_apply (R : Fin 8192) (b : Fin 56) : k0_pay6 x4 x3 x0 x1 x2 x5 x6 (ix2 R b) = amax (outX x0 x1 x2 x3 x4 x5 x6) R.val b.val := by
  unfold k0_pay6
  have h := fun l => pay5_apply x0 x1 x2 x3 x4 x5 x6 R b l
  generalize k0_pay5 x4 x3 x0 x1 x2 x5 x6 = z at h ⊢
  pointwise
  simp only [h, f32_bot]
  rfl

theorem named448 : Named.named (F := Ideal) (φ := .f32) κ "inv448" 0x3B124925#32 = ((1 / 448 : ℝ) : EReal) := rfl
theorem namedLn2 : Named.named (F := Ideal) (φ := .f32) κ "ln2" 0x3F317218#32 = ((Real.log 2 : ℝ) : EReal) := rfl

theorem pay7_gen (z : FVec Ideal S8192x56 .f32) (c1 c2 : Ideal .f32) (R : Fin 8192) (b : Fin 56) :
    (addf (floor (divf (log (mulf z (broadcast S8192x56 c1))) (broadcast S8192x56 c2))) (broadcast S8192x56 (Scalar.ofBits .f32 0x3F800000#32)) : FVec Ideal S8192x56 .f32) (ix2 R b)
      = Ideal.liftRound Int.floor (Ideal.div (Ideal.log (z (ix2 R b) * c1)) c2) + 1 := by
  pointwise

theorem pay7_eq : k0_pay7 (F := Ideal) x4 x3 x0 x1 x2 x5 x6 = addf (floor (divf (log (mulf (k0_pay6 x4 x3 x0 x1 x2 x5 x6) (broadcast S8192x56 (Named.named κ "inv448" 0x3B124925#32)))) (broadcast S8192x56 (Named.named κ "ln2" 0x3F317218#32)))) (broadcast S8192x56 (Scalar.ofBits .f32 0x3F800000#32)) := by
  unfold k0_pay7
  rfl

theorem pay7_apply (R : Fin 8192) (b : Fin 56) : k0_pay7 x4 x3 x0 x1 x2 x5 x6 (ix2 R b) =
    Ideal.liftRound Int.floor (Ideal.div (Ideal.log (amax (outX x0 x1 x2 x3 x4 x5 x6) R.val b.val * ((1 / 448 : ℝ) : EReal))) ((Real.log 2 : ℝ) : EReal)) + 1 := by
  rw [pay7_eq, pay7_gen, named448, namedLn2, pay6_apply]

variable (v27 : FVec Ideal S8192x56x128 .f32) (v29 v37 : FVec Ideal S8192x56 .f32) (a b : Ideal .f32)
theorem pay1_gen (R : Fin 8192) (q : Fin 56) : k0_pay1 v29 v37 a b (ix2 R q) = if v29 (ix2 R q) = 0 then 0 else min b (max a (v37 (ix2 R q))) := by
  unfold k0_pay1
  pointwise
theorem pay2_gen (R : Fin 8192) (B : Fin 56) (l : Fin 128) (C : Fin 7168) (hC : C.val = 128 * B.val + l.val) :
    k0_pay2 v27 v29 v37 a b (ix2 R C) = min ((448 : ℝ) : EReal) (max ((-448 : ℝ) : EReal) (v27 (ix3 R B l) * Ideal.exp2 (0 - k0_pay1 v29 v37 a b (ix2 R B)))) := by
  unfold k0_pay2
  generalize k0_pay1 v29 v37 a b = z
  pointwise
  rw [f32_448, f32_neg448]
  have hB := B.isLt
  have hl := l.isLt
  rw [show (⟨C.val / 128, by have := C.isLt; omega⟩ : Fin 56) = B from Fin.ext (by show C.val / 128 = B.val; omega),
    show (⟨C.val % 128, Nat.mod_lt _ (by decide)⟩ : Fin 128) = l from Fin.ext (by show C.val % 128 = l.val; omega)]
  rfl
theorem pay3_gen (B : Fin 14) (R : Fin 8192) (q : Fin 4) (n : Fin 56) (hn : n.val = 4 * B.val + q.val) : k0_pay3 v29 v37 a b (ix3 B R q) = Ideal.exp2 (k0_pay1 v29 v37 a b (ix2 R n)) := by
  unfold k0_pay3
  generalize k0_pay1 v29 v37 a b = z
  pointwise
  rw [show (⟨B.val * 4 + q.val, by have := B.isLt; have := q.isLt; omega⟩ : Fin 56) = n from Fin.ext (by show B.val * 4 + q.val = n.val; omega)]
  rfl
end Cert.ReferenceIdeal.Val
-- ==== Proof.RefArr.lean ====
module
public import proofs.«01_k».proof.Proof.RefCodes
@[expose] public section
noncomputable section
namespace Cert.ReferenceIdeal.Val
open Idealize.ShloMosaic Idealize.ShloMosaic.TcCoe Idealize.ShloMosaic.Tactic Idealize.SL.Sem
open Cert.ReferenceIdeal Cert.ReferenceIdeal.Gen
open Cert.Lin
variable (x0 : Vec Ideal S8192x18432 .bf16) (x1 : Vec Ideal S8192x208 .bf16) (x2 : Vec Ideal S208x7168 .bf16) (x3 : Vec Ideal S18432x7168 .fp8e4m3) (x4 : Vec Ideal S144x56 .f32) (x5 : Vec Ideal S1x7168 .f32) (x6 : Vec Ideal S8192x7168 .bf16)

/-- The codes the reference stores. -/
def codesX : Vec Ideal S8192x7168 .fp8e4m3 :=
  k0_pay2 (F := Ideal) (k0_pay5 x4 x3 x0 x1 x2 x5 x6) (k0_pay6 x4 x3 x0 x1 x2 x5 x6) (k0_pay7 x4 x3 x0 x1 x2 x5 x6) (Scalar.ofBits .f32 0xC2FC0000#32) (Scalar.ofBits .f32 0x42FC0000#32)
/-- The scales it stores. -/
def scalesX : Vec Ideal S14x8192x4 .f32 :=
  k0_pay3 (F := Ideal) (k0_pay6 x4 x3 x0 x1 x2 x5 x6) (k0_pay7 x4 x3 x0 x1 x2 x5 x6) (Scalar.ofBits .f32 0xC2FC0000#32) (Scalar.ofBits .f32 0x42FC0000#32)

/-- The exponent of a block. -/
theorem pay1_apply (R : Fin 8192) (B : Fin 56) : k0_pay1 (F := Ideal) (k0_pay6 x4 x3 x0 x1 x2 x5 x6) (k0_pay7 x4 x3 x0 x1 x2 x5 x6) (Scalar.ofBits .f32 0xC2FC0000#32) (Scalar.ofBits .f32 0x42FC0000#32) (ix2 R B)
    = expR (amax (outX x0 x1 x2 x3 x4 x5 x6) R.val B.val) := by
  rw [pay1_gen, pay6_apply, pay7_apply]
  unfold expR
  rw [← f32_126, ← f32_neg126]
  rfl

theorem codesX_apply (R : Fin 8192) (C : Fin 7168) : codesX x0 x1 x2 x3 x4 x5 x6 (ix2 R C) = codeOf (outX x0 x1 x2 x3 x4 x5 x6) R.val C.val := by
  unfold codesX
  have hC := C.isLt
  have hd : 128 * (C.val / 128) + C.val % 128 = C.val := by omega
  rw [pay2_gen _ _ _ _ _ R ⟨C.val / 128, by omega⟩ ⟨C.val % 128, Nat.mod_lt _ (by decide)⟩ C hd.symm, pay1_apply, pay5_apply]
  unfold codeOf
  dsimp only
  rw [hd]

theorem scalesX_apply (B : Fin 14) (R : Fin 8192) (q : Fin 4) : scalesX x0 x1 x2 x3 x4 x5 x6 (ix3 B R q) = scaleOf (outX x0 x1 x2 x3 x4 x5 x6) R.val (4 * B.val + q.val) := by
  unfold scalesX
  rw [pay3_gen _ _ _ _ B R q ⟨4 * B.val + q.val, by have := B.isLt; have := q.isLt; omega⟩ rfl, pay1_apply]
  rfl

theorem out0_8_eq : out0_8 x0 x1 x2 x3 x4 x5 x6 = codesX x0 x1 x2 x3 x4 x5 x6 := by
  unfold_out out0_8
  rw [View.canon_unit_zero hz2, View.ld_unit_zero (S := S144x56) hz2, View.ld_unit_zero (S := S18432x7168) hz2, View.ld_unit_zero (S := S8192x18432) hz2, View.ld_unit_zero (S := S8192x208) hz2, View.ld_unit_zero (S := S208x7168) hz2, View.ld_unit_zero (S := S1x7168) hz2, View.ld_unit_zero (S := S8192x7168) hz2]
  rfl

theorem out0_9_eq : out0_9 x0 x1 x2 x3 x4 x5 x6 = scalesX x0 x1 x2 x3 x4 x5 x6 := by
  unfold_out out0_9
  rw [View.canon_unit_zero hz3, View.ld_unit_zero (S := S144x56) hz2, View.ld_unit_zero (S := S18432x7168) hz2, View.ld_unit_zero (S := S8192x18432) hz2, View.ld_unit_zero (S := S8192x208) hz2, View.ld_unit_zero (S := S208x7168) hz2, View.ld_unit_zero (S := S1x7168) hz2, View.ld_unit_zero (S := S8192x7168) hz2]
  rfl

variable (m : (ℓ : Loc nD τ sig) → Buf (Elt Ideal) ℓ) (c : Dev nD)

theorem arr8 : (dats m 0 c).arrAt 8 cfg0.N = codesX (op0 m c) (op1 m c) (op2 m c) (op3 m c) (op4 m c) (op5 m c) (op6 m c) := by
  refine (dats m 0 c).arrAt_eq_of_covers 8 _ (by decide +kernel) fun t hf y => ?_
  blk_simp
  rw [after0_8]
  rw [out0_8_eq, iblk0, iblk1, iblk2, iblk3, iblk4, iblk5, iblk6]
  exact congrArg (codesX (op0 m c) (op1 m c) (op2 m c) (op3 m c) (op4 m c) (op5 m c) (op6 m c)) (funext fun a => Fin.ext (Pipeline.Window.rect_emb_val_of_index_zero win0_8 t a rfl y).symm)

theorem arr9 : (dats m 0 c).arrAt 9 cfg0.N = scalesX (op0 m c) (op1 m c) (op2 m c) (op3 m c) (op4 m c) (op5 m c) (op6 m c) := by
  refine (dats m 0 c).arrAt_eq_of_covers 9 _ (by decide +kernel) fun t hf y => ?_
  blk_simp
  rw [after0_9]
  rw [out0_9_eq, iblk0, iblk1, iblk2, iblk3, iblk4, iblk5, iblk6]
  exact congrArg (scalesX (op0 m c) (op1 m c) (op2 m c) (op3 m c) (op4 m c) (op5 m c) (op6 m c)) (funext fun a => Fin.ext (Pipeline.Window.rect_emb_val_of_index_zero win0_9 t a rfl y).symm)

/-- The output at row `r`, column `n` of the arrays. -/
def outR (r n : ℕ) : EReal := outX (op0 m c) (op1 m c) (op2 m c) (op3 m c) (op4 m c) (op5 m c) (op6 m c) r n

/-- The reference's array of codes. -/
theorem arr8_apply (R : Fin 8192) (C : Fin 7168) : (dats m 0 c).arrAt 8 cfg0.N (ix2 R C) = codeOf (outR m c) R.val C.val := by
  rw [arr8]
  exact codesX_apply (op0 m c) (op1 m c) (op2 m c) (op3 m c) (op4 m c) (op5 m c) (op6 m c) R C

/-- The reference's array of scales. -/
theorem arr9_apply (B : Fin 14) (R : Fin 8192) (q : Fin 4) : (dats m 0 c).arrAt 9 cfg0.N (ix3 B R q) = scaleOf (outR m c) R.val (4 * B.val + q.val) := by
  rw [arr9]
  exact scalesX_apply (op0 m c) (op1 m c) (op2 m c) (op3 m c) (op4 m c) (op5 m c) (op6 m c) B R q
end Cert.ReferenceIdeal.Val
-- ==== Proof.Agree.lean ====
module
public import proofs.«01_k».proof.Proof.Out89
public import proofs.«01_k».proof.Proof.RefArr
@[expose] public section
noncomputable section
namespace Cert.Agree
open Idealize.ShloMosaic Idealize.ShloMosaic.TcCoe Idealize.ShloMosaic.Tactic Idealize.SL.Sem
open Cert.Lin
variable (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ) (c : Dev KernelIdeal.nD)

theorem aX_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) : KernelIdeal.Val.aX m c = at2 8192 18432 (ReferenceIdeal.Val.op0 m' c) :=
  (congrArg (fun z : KernelIdeal.S2x4096x18432.Idx → EReal => at2 8192 18432 (shapeCast KernelIdeal.S8192x18432 z KernelIdeal.Gen.shapeCasts_S2x4096x18432_S8192x18432)) h).symm
theorem aXO_eq (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : KernelIdeal.Val.aXO m c = at2 8192 208 (ReferenceIdeal.Val.op1 m' c) :=
  (congrArg (fun z : KernelIdeal.S2x4096x208.Idx → EReal => at2 8192 208 (shapeCast KernelIdeal.S8192x208 z KernelIdeal.Gen.shapeCasts_S2x4096x208_S8192x208)) h).symm
theorem aWO_eq (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) : KernelIdeal.Val.aWO m c = at2 208 7168 (ReferenceIdeal.Val.op2 m' c) :=
  (congrArg (fun z : KernelIdeal.S208x7168.Idx → EReal => at2 208 7168 (z)) h).symm
theorem aW_eq (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) : KernelIdeal.Val.aW m c = at2 18432 7168 (ReferenceIdeal.Val.op3 m' c) :=
  (congrArg (fun z : KernelIdeal.S18432x7168.Idx → EReal => at2 18432 7168 (z)) h).symm
theorem aS_eq (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) : KernelIdeal.Val.aS m c = at2 144 56 (ReferenceIdeal.Val.op4 m' c) :=
  (congrArg (fun z : KernelIdeal.S144x56.Idx → EReal => at2 144 56 (z)) h).symm
theorem aB_eq (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) : KernelIdeal.Val.aB m c = at2 1 7168 (ReferenceIdeal.Val.op5 m' c) :=
  (congrArg (fun z : KernelIdeal.S7168.Idx → EReal => at2 1 7168 (shapeCast KernelIdeal.S1x7168 z KernelIdeal.Gen.shapeCasts_S7168_S1x7168)) h).symm
theorem aR_eq (h : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) : KernelIdeal.Val.aR m c = at2 8192 7168 (ReferenceIdeal.Val.op6 m' c) :=
  (congrArg (fun z : KernelIdeal.S2x4096x7168.Idx → EReal => at2 8192 7168 (shapeCast KernelIdeal.S8192x7168 z KernelIdeal.Gen.shapeCasts_S2x4096x7168_S8192x7168)) h).symm

/-- The two programs are run on the same arguments. -/
abbrev Same : Prop := m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- Both give the same output. -/
theorem out_eq (h : Same m m' c) : KernelIdeal.Val.outV m c = ReferenceIdeal.Val.outR m' c := by
  obtain ⟨h0, h1, h2, h3, h4, h5, h6⟩ := h
  funext r n
  unfold KernelIdeal.Val.outV ReferenceIdeal.Val.outR ReferenceIdeal.Val.outX
  rw [aX_eq m m' c h0, aXO_eq m m' c h1, aWO_eq m m' c h2, aW_eq m m' c h3, aS_eq m m' c h4, aB_eq m m' c h5, aR_eq m m' c h6]

theorem arr7_eq (h : Same m m' c) : (ReferenceIdeal.Gen.dats m' 0 c).arrAt 7 ReferenceIdeal.cfg0.N = KernelIdeal.Value.G7 m c := by
  funext i
  obtain ⟨R, C, rfl⟩ : ∃ (R : Fin 8192) (C : Fin 7168), i = ix2 R C := ⟨i 0, i 1, eq_ix2 i⟩
  refine (ReferenceIdeal.Val.arr7_apply m' c R C).trans (Eq.trans ?_ (KernelIdeal.Val.G7_apply m c R C).symm)
  rw [out_eq m m' c h]
  rfl

theorem arr8_eq (h : Same m m' c) : (ReferenceIdeal.Gen.dats m' 0 c).arrAt 8 ReferenceIdeal.cfg0.N = KernelIdeal.Value.G8 m c := by
  funext i
  obtain ⟨R, C, rfl⟩ : ∃ (R : Fin 8192) (C : Fin 7168), i = ix2 R C := ⟨i 0, i 1, eq_ix2 i⟩
  refine (ReferenceIdeal.Val.arr8_apply m' c R C).trans (Eq.trans ?_ (KernelIdeal.Val.G8_apply m c R C).symm)
  rw [out_eq m m' c h]

theorem arr9_eq (h : Same m m' c) : (ReferenceIdeal.Gen.dats m' 0 c).arrAt 9 ReferenceIdeal.cfg0.N = KernelIdeal.Value.G9 m c := by
  funext i
  obtain ⟨B, R, q, rfl⟩ : ∃ (B : Fin 14) (R : Fin 8192) (q : Fin 4), i = ix3 B R q := ⟨i 0, i 1, i 2, eq_ix3 i⟩
  refine (ReferenceIdeal.Val.arr9_apply m' c B R q).trans (Eq.trans ?_ (KernelIdeal.Val.G9_apply m c B R q).symm)
  rw [out_eq m m' c h]
end Cert.Agree
-- ==== Proof.QxLane.lean ====
module
public import proofs.«01_k».proof.Proof.QxRun
public import proofs.«01_k».proof.Proof.Scale
public import Idealize.ShloMosaic.Lib.Pipeline.ValueKit
public import Idealize.ShloMosaic.Lib.Pointwise
@[expose] public section
noncomputable section
/-! One block of 128 columns of the quantising call: its scale, codes and dequantised values, element by element. -/
namespace Cert.QuantXIdeal.Val
open Idealize.ShloMosaic Idealize.ShloMosaic.TcCoe Idealize.ShloMosaic.Tactic Idealize.SL.Sem
open Cert.QuantXIdeal Cert.QuantXIdeal.Gen
open Cert.Lin
/-- One step of the search for the exponent of a block: take the bit if the magnitude reaches the power of two it stands for. -/
def stepT (a : FVec Ideal S64x128 .f32) (bit : BitVec 32) (e : IVec S64x128 32) : IVec S64x128 32 :=
  select (cmpf .oge a (mulf (broadcast S64x128 (Scalar.ofBits .f32 0x43E00000#32)) (bitcastToFloat .f32 (shli (subi (addi e (broadcast S64x128 bit)) (broadcast S64x128 1#32)) (broadcast S64x128 23#32)))))
    (addi e (broadcast S64x128 bit)) e

/-- The exponent found. -/
def expT (a : FVec Ideal S64x128 .f32) : IVec S64x128 32 :=
  select (cmpf .oeq a (broadcast S64x128 (Scalar.ofBits .f32 0x00000000#32))) (broadcast S64x128 127#32)
    (minsi (stepT a 1#32 (stepT a 2#32 (stepT a 4#32 (stepT a 8#32 (stepT a 16#32 (stepT a 32#32 (stepT a 64#32 (stepT a 128#32 (broadcast S64x128 0#32))))))))) (broadcast S64x128 253#32))

variable (v9 : Vec Ideal S64x128 .bf16) (v12 : Vec Ideal S1x128 .i32)

theorem pay10_eq : k0_pay10 (k0_pay7 v9 v12) (k0_pay9 (k0_pay7 v9 v12) (k0_pay8 v9 v12) 32#32) 2#32 = expT (k0_pay7 v9 v12) := by
  unfold k0_pay10 k0_pay9 k0_pay8
  rfl

/-- The search a lane at a time. -/
theorem stepT_apply (a : FVec Ideal S64x128 .f32) (b : BitVec 32) (e : IVec S64x128 32) (r : Fin 64) (l : Fin 128) :
    stepT a b e (ix2 r l) = stepS (a (ix2 r l)) b (e (ix2 r l)) := by
  unfold stepT
  pointwise
  rw [f32_448]
  rfl

theorem expT_apply (a : FVec Ideal S64x128 .f32) (r : Fin 64) (l : Fin 128) : expT a (ix2 r l) = expS (a (ix2 r l)) := by
  unfold expT
  pointwise
  simp only [stepT_apply]
  rfl

/-- A kept channel keeps its value, the others count as zero. -/
theorem pay6_apply (r : Fin 64) (l : Fin 128) : k0_pay6 (F := Ideal) v9 v12 (ix2 r l) = if v12 (ix2 0 l) ≠ 0#32 then v9 (ix2 r l) else (0 : EReal) := by
  unfold k0_pay6 k0_pay5
  pointwise
  unfold Scalar.select IntOp.cmpi
  by_cases h : v12 (ix2 0 l) = 0#32
  · rw [if_neg (not_not.mpr h), h]; rfl
  · have hb : (v12 (ix2 0 l) != 0#32) = true := by simpa using h
    rw [if_pos h]
    simp only [hb]
    rfl

variable (f : ℕ → ℕ → EReal) (r : Fin 64) (R b : ℕ) (ho : ∀ l : Fin 128, k0_pay6 (F := Ideal) v9 v12 (ix2 r l) = f R (128 * b + l.val))
include ho
theorem pay7_apply (l : Fin 128) : k0_pay7 (F := Ideal) v9 v12 (ix2 r l) = amax f R b := by
  unfold k0_pay7
  generalize k0_pay6 (F := Ideal) v9 v12 = z at ho
  pointwise
  simp only [ho, bf16_bot]
  rfl

/-- The scale of a block. -/
theorem pay11_apply (l : Fin 128) : k0_pay11 (F := Ideal) (k0_pay7 v9 v12) (k0_pay9 (k0_pay7 v9 v12) (k0_pay8 v9 v12) 32#32) 2#32 (ix2 r l) = scaleOf f R b := by
  unfold k0_pay11
  rw [pay10_eq]
  have h := pay7_apply v9 v12 f r R b ho l
  generalize k0_pay7 (F := Ideal) v9 v12 = z at h
  pointwise
  rw [expT_apply, h]
  unfold scaleOf
  rw [← scale_eq _ (amax_nonneg f R b)]
  rfl

/-- Its codes. -/
theorem pay12_apply (l : Fin 128) : k0_pay12 (F := Ideal) (k0_pay6 v9 v12) (k0_pay7 v9 v12) (k0_pay9 (k0_pay7 v9 v12) (k0_pay8 v9 v12) 32#32) 2#32 (ix2 r l) = codeOf f R (128 * b + l.val) := by
  unfold k0_pay12
  rw [pay10_eq]
  have h := pay7_apply v9 v12 f r R b ho l
  have ho := ho l
  generalize k0_pay7 (F := Ideal) v9 v12 = z at h
  generalize k0_pay6 (F := Ideal) v9 v12 = z at ho
  pointwise
  rw [expT_apply, h, bf16_448, bf16_neg448, ho]
  unfold codeOf
  rw [show (128 * b + l.val) / 128 = b by have := l.isLt; omega, ← inv_eq _ (amax_nonneg f R b)]
  rfl

/-- The values the codes stand for. -/
theorem pay13_apply (l : Fin 128) : k0_pay13 (F := Ideal) (k0_pay11 (k0_pay7 v9 v12) (k0_pay9 (k0_pay7 v9 v12) (k0_pay8 v9 v12) 32#32) 2#32) (k0_pay12 (k0_pay6 v9 v12) (k0_pay7 v9 v12) (k0_pay9 (k0_pay7 v9 v12) (k0_pay8 v9 v12) 32#32) 2#32) (ix2 r l)
    = (codeOf f R (128 * b + l.val) * scaleOf f R b : EReal) := by
  unfold k0_pay13
  have h := pay11_apply v9 v12 f r R b ho l
  have h' := pay12_apply v9 v12 f r R b ho l
  generalize k0_pay11 (F := Ideal) _ _ _ = z at h
  generalize k0_pay12 (F := Ideal) _ _ _ _ = z' at h'
  pointwise
  rw [h, h']

/-- Lane `b` of the scales takes the block's scale, the others keep what they hold. -/
theorem pay14_apply (w : BitVec 32) (ys : FVec Ideal S64x144 .f32) (l : Fin 144) :
    k0_pay14 (F := Ideal) (iota .tc S64x144 32 [1] iota_S64x144_d1_w32) w (k0_pay11 (k0_pay7 v9 v12) (k0_pay9 (k0_pay7 v9 v12) (k0_pay8 v9 v12) 32#32) 2#32) ys (ix2 r l)
      = if BitVec.ofNat 32 l.val = w then scaleOf f R b else ys (ix2 r l) := by
  unfold k0_pay14
  have h := pay11_apply v9 v12 f r R b ho 0
  generalize k0_pay11 (F := Ideal) _ _ _ = z at h
  pointwise
  rw [h]
  unfold Scalar.select IntOp.cmpi
  by_cases h : BitVec.ofNat 32 l.val = w
  · rw [if_pos h]; simp [h]
  · have hb : (BitVec.ofNat 32 l.val == w) = false := by simpa using h
    rw [if_neg h]
    simp only [hb]
    rfl

end Cert.QuantXIdeal.Val
-- ==== Proof.QxPick.lean ====
module
public import proofs.«01_k».proof.Proof.QxRun
public import Idealize.ShloMosaic.Lib.Pipeline.ValueKit
public import Idealize.ShloMosaic.Lib.Pointwise
@[expose] public section
noncomputable section
/-! One block of 128 columns of the quantising call: which gathered columns it holds, and their values. -/
namespace Cert.QuantXIdeal.Val
open Idealize.ShloMosaic Idealize.ShloMosaic.TcCoe Idealize.ShloMosaic.Tactic Idealize.SL.Sem
open Cert.QuantXIdeal Cert.QuantXIdeal.Gen

/-- A column number less the first column of block `k`, as a lane of that block. -/
theorem off_iff (w : BitVec 32) (k : ℕ) (hk : k < 144) : (w - BitVec.ofNat 32 k * 128#32).toNat < 128 ↔ 128 * k ≤ w.toNat ∧ w.toNat < 128 * k + 128 := by
  have := w.isLt
  rw [BitVec.toNat_sub, BitVec.toNat_mul, BitVec.toNat_ofNat]
  show (2 ^ 32 - (k % 2 ^ 32) * (128 % 2 ^ 32) % 2 ^ 32 + w.toNat) % 2 ^ 32 < 128 ↔ _
  omega
theorem off_val (w : BitVec 32) (k : ℕ) (hk : k < 144) (h : 128 * k ≤ w.toNat ∧ w.toNat < 128 * k + 128) : (w - BitVec.ofNat 32 k * 128#32).toNat = w.toNat - 128 * k := by
  have := w.isLt
  rw [BitVec.toNat_sub, BitVec.toNat_mul, BitVec.toNat_ofNat]
  show (2 ^ 32 - (k % 2 ^ 32) * (128 % 2 ^ 32) % 2 ^ 32 + w.toNat) % 2 ^ 32 = _
  omega
theorem in_iff (o : BitVec 32) : IntOp.andi (IntOp.cmpi .sge o 0#32) (IntOp.cmpi .slt o 128#32) = 1 ↔ o.toNat < 128 := by
  have e : IntOp.andi (IntOp.cmpi .sge o 0#32) (IntOp.cmpi .slt o 128#32) = BitVec.ofBool ((0#32).sle o) &&& BitVec.ofBool (o.slt 128#32) := rfl
  rw [e]
  have h1 : (0#32).sle o = decide (0 ≤ o.toInt) := rfl
  have h2 : o.slt 128#32 = decide (o.toInt < 128) := rfl
  rw [h1, h2]
  have ho := o.isLt
  have hi := BitVec.toInt_eq_toNat_cond o
  by_cases p : 0 ≤ o.toInt <;> by_cases q : o.toInt < 128 <;> simp [p, q] <;> split at hi <;> omega

/-- Of the lanes of block `k` the one the column number names, if it names one of them; what was held otherwise. -/
theorem pick_eq (k : ℕ) (hk : k < 144) (w : BitVec 32) (x : Fin 128 → EReal) (old : EReal) (X : ℕ → EReal) (hx : ∀ l : Fin 128, x l = X (128 * k + l.val)) :
    Scalar.select (IntOp.andi (IntOp.cmpi .sge (IntOp.subi w (Scalar.muli (BitVec.ofNat 32 k) 128#32)) 0#32) (IntOp.cmpi .slt (IntOp.subi w (Scalar.muli (BitVec.ofNat 32 k) 128#32)) 128#32))
      (x ⟨(Scalar.select (IntOp.cmpi .slt (IntOp.andi (IntOp.subi w (Scalar.muli (BitVec.ofNat 32 k) 128#32)) 127#32) 0#32)
          (IntOp.addi (IntOp.andi (IntOp.subi w (Scalar.muli (BitVec.ofNat 32 k) 128#32)) 127#32) 128#32)
          (IntOp.andi (IntOp.subi w (Scalar.muli (BitVec.ofNat 32 k) 128#32)) 127#32)).toNat % 128, Nat.mod_lt _ (by decide)⟩) old
      = if 128 * k ≤ w.toNat ∧ w.toNat < 128 * k + 128 then X w.toNat else old := by
  have e : IntOp.subi w (Scalar.muli (BitVec.ofNat 32 k) 128#32) = w - BitVec.ofNat 32 k * 128#32 := rfl
  rw [e]
  have hi := in_iff (w - BitVec.ofNat 32 k * 128#32)
  rw [off_iff w k hk] at hi
  have hv := off_val w k hk
  generalize w - BitVec.ofNat 32 k * 128#32 = o at hi hv
  by_cases h : 128 * k ≤ w.toNat ∧ w.toNat < 128 * k + 128
  · rw [if_pos h]
    unfold Scalar.select
    rw [if_pos (hi.mpr h), hx]
    refine congrArg X ?_
    have hv := hv h
    have ha : IntOp.andi o 127#32 = o := by
      apply BitVec.eq_of_toNat_eq
      show (o &&& 127#32).toNat = o.toNat
      rw [BitVec.toNat_and]
      show o.toNat &&& (2 ^ 7 - 1) = _
      rw [Nat.and_two_pow_sub_one_eq_mod]
      omega
    have hs : ¬ IntOp.cmpi .slt o 0#32 = 1 := by
      have e : IntOp.cmpi .slt o 0#32 = BitVec.ofBool (decide (o.toInt < 0)) := rfl
      have ht := BitVec.toInt_eq_toNat_cond o
      have hn : ¬ o.toInt < 0 := by split at ht <;> omega
      rw [e, decide_eq_false hn]
      decide
    rw [ha, if_neg hs]
    dsimp only
    omega
  · rw [if_neg h]
    unfold Scalar.select
    rw [if_neg fun q => h (hi.mp q)]

theorem pay4_apply (k : ℕ) (hk : k < 144) (v10 : FVec Ideal S64x128 .bf16) (v181 : Vec Ideal S1x128 .i32) (v206 : Vec Ideal S64x128 .bf16)
    (X : ℕ → ℕ → EReal) (r : Fin 64) (l : Fin 128) (R : ℕ) (hx : ∀ l : Fin 128, v10 (ix2 r l) = X R (128 * k + l.val)) :
    k0_pay4 (F := Ideal) (BitVec.ofNat 32 k) v10 v181 v206 (ix2 r l)
      = if 128 * k ≤ (v181 (ix2 0 l)).toNat ∧ (v181 (ix2 0 l)).toNat < 128 * k + 128 then X R (v181 (ix2 0 l)).toNat else v206 (ix2 r l) := by
  unfold k0_pay4
  pointwise
  exact pick_eq k hk (v181 (ix2 0 l)) (fun l => v10 (ix2 r l)) _ (X R) hx

/-- The first half of the gathered columns, by the same rule. -/
theorem pay3_apply (k : ℕ) (hk : k < 144) (v10 : FVec Ideal S64x128 .bf16) (v152 : Vec Ideal S1x128 .i32) (v177 : Vec Ideal S64x128 .bf16)
    (X : ℕ → ℕ → EReal) (r : Fin 64) (l : Fin 128) (R : ℕ) (hx : ∀ l : Fin 128, v10 (ix2 r l) = X R (128 * k + l.val)) :
    k0_pay3 (F := Ideal) (k0_pay16 (F := Ideal) (BitVec.ofNat 32 k) v152) (k0_pay17 (F := Ideal) (BitVec.ofNat 32 k) v10 v152) v177 (ix2 r l)
      = if 128 * k ≤ (v152 (ix2 0 l)).toNat ∧ (v152 (ix2 0 l)).toNat < 128 * k + 128 then X R (v152 (ix2 0 l)).toNat else v177 (ix2 r l) := by
  unfold k0_pay3 k0_pay16 k0_pay17 k0_pay15
  pointwise
  exact pick_eq k hk (v152 (ix2 0 l)) (fun l => v10 (ix2 r l)) _ (X R) hx

end Cert.QuantXIdeal.Val
-- ==== Proof.QxSpec.lean ====
module
public import proofs.«01_k».proof.Proof.Spec
public import proofs.«01_k».proof.Proof.Scale
@[expose] public section
noncomputable section
/-! What the quantising call computes, as formulas over its arguments' elements. -/
namespace Cert.Lin
open Idealize.ShloMosaic

/-- The word of an `a × b` array at row `r`, column `c`; 0 outside the array. -/
def wat (a b : ℕ) (W : (⟨2, ![a, b]⟩ : Shape).Idx → BitVec 32) (r c : ℕ) : BitVec 32 :=
  if h : r < a ∧ c < b then W (ix2 ⟨r, h.1⟩ ⟨c, h.2⟩) else 0#32

theorem wat_ix {a b : ℕ} (W : (⟨2, ![a, b]⟩ : Shape).Idx → BitVec 32) (r : Fin a) (c : Fin b) : wat a b W r.val c.val = W (ix2 r c) :=
  dif_pos ⟨r.isLt, c.isLt⟩

/-- The kept channels of the activation: channel `n` counts when its word in the mask is not 0. -/
def keepOf (X : ℕ → ℕ → EReal) (K : ℕ → ℕ → BitVec 32) (r n : ℕ) : EReal := if K (n / 128) (n % 128) ≠ 0#32 then X r n else 0
theorem keepOf_of (X : ℕ → ℕ → EReal) {K : ℕ → ℕ → BitVec 32} {r n : ℕ} {w : BitVec 32} (h : K (n / 128) (n % 128) = w) : keepOf X K r n = if w ≠ 0#32 then X r n else 0 := by
  subst h
  rfl

/-- The value a code stands for: the code times its block's scale. -/
def deqOf (f : ℕ → ℕ → EReal) (r n : ℕ) : EReal := codeOf f r n * scaleOf f r (n / 128)

/-- The channel an index word names, 0 when there is no such channel. -/
def pickOf (X : ℕ → ℕ → EReal) (I : ℕ → ℕ → BitVec 32) (r j : ℕ) : EReal :=
  if (I (j / 128) (j % 128)).toNat < 18432 then X r (I (j / 128) (j % 128)).toNat else 0
theorem pickOf_of (X : ℕ → ℕ → EReal) {I : ℕ → ℕ → BitVec 32} {r j : ℕ} {w : BitVec 32} (h : I (j / 128) (j % 128) = w) : pickOf X I r j = if w.toNat < 18432 then X r w.toNat else 0 := by
  subst h
  rfl

/-- All of these read one row of the values alone. -/
theorem amax_row {f g : ℕ → ℕ → EReal} {r R : ℕ} (h : f r = g R) (b : ℕ) : amax f r b = amax g R b := by unfold amax; rw [h]
theorem scaleOf_row {f g : ℕ → ℕ → EReal} {r R : ℕ} (h : f r = g R) (b : ℕ) : scaleOf f r b = scaleOf g R b := by unfold scaleOf; rw [amax_row h]
theorem codeOf_row {f g : ℕ → ℕ → EReal} {r R : ℕ} (h : f r = g R) (n : ℕ) : codeOf f r n = codeOf g R n := by unfold codeOf; rw [amax_row h, h]
theorem deqOf_row {f g : ℕ → ℕ → EReal} {r R : ℕ} (h : f r = g R) (n : ℕ) : deqOf f r n = deqOf g R n := by unfold deqOf; rw [codeOf_row h, scaleOf_row h]
theorem pickOf_row {f g : ℕ → ℕ → EReal} {r R : ℕ} (h : f r = g R) (I : ℕ → ℕ → BitVec 32) (j : ℕ) : pickOf f I r j = pickOf g I R j := by unfold pickOf; rw [h]
theorem keepOf_row {f g : ℕ → ℕ → EReal} {r R : ℕ} (h : f r = g R) (K : ℕ → ℕ → BitVec 32) : keepOf f K r = keepOf g K R := by funext n; unfold keepOf; rw [h]
end Cert.Lin
-- ==== Proof.QxTrip.lean ====
module
public import proofs.«01_k».proof.Proof.QxRun
public import proofs.«01_k».proof.Proof.QxLane
public import proofs.«01_k».proof.Proof.QxPick
public import proofs.«01_k».proof.Proof.QxSpec
public import Idealize.ShloMosaic.Lib.Pipeline.ValueKit
public import Idealize.ShloMosaic.Lib.Pipeline.ValueKit.Tiles
public import Idealize.ShloMosaic.Lib.WritesUnit
public import Idealize.ShloMosaic.Lib.WordArith.Masks
@[expose] public section
noncomputable section
/-! One trip of the quantising call's loop: what it reads, and the stores it makes. -/
namespace Cert.QuantXIdeal.Val
open Idealize.ShloMosaic Idealize.ShloMosaic.TcCoe Idealize.ShloMosaic.Tactic Idealize.SL.Sem
open Cert.QuantXIdeal Cert.QuantXIdeal.Gen
open Cert.Lin
theorem trips_eq : k0_t1_loop.trips = 144 := by decide
theorem iv_eq (k : Fin k0_t1_loop.trips) : (Scf.iv 0#32 1#32 k).toNat = k.val := WordArith.toNat_iv_zero_one _ (by have := lt_of_lt_of_eq k.isLt trips_eq; omega)
theorem iv_nat (n : ℕ) (hn : n < 144) : Scf.iv 0#32 1#32 n = BitVec.ofNat 32 n := by
  apply BitVec.eq_of_toNat_eq
  rw [WordArith.toNat_iv_zero_one n (by omega), BitVec.toNat_ofNat]
  omega
theorem off1_eq (k : Fin k0_t1_loop.trips) : k0_off1 k = ![0, 128 * k.val] := by
  have := lt_of_lt_of_eq k.isLt trips_eq
  show ![0, (Scf.iv 0#32 1#32 k * 128#32).toNat] = _
  rw [BitVec.toNat_mul, iv_eq, show (128#32 : BitVec 32).toNat = 128 from rfl, show k.val * 128 % 2 ^ 32 = 128 * k.val by omega]
theorem off2_eq (k : Fin k0_t1_loop.trips) : k0_off2 k = ![k.val, 0] := by
  show ![(Scf.iv 0#32 1#32 k).toNat, 0] = _
  rw [iv_eq]

/-- Block `k` of the activation's columns, and its row of the mask. -/
def xb (x0 : Vec Ideal S64x18432 .bf16) (k : Fin k0_t1_loop.trips) : Vec Ideal S64x128 .bf16 :=
  View.ld (Val := Elt Ideal) (e' := .bf16) x0 (Rect.unit (s := S64x18432) (k0_off1 k) S64x128.size (k0_off1_inb k))
def kb (x1 : Vec Ideal S144x128 .i32) (k : Fin k0_t1_loop.trips) : Vec Ideal S1x128 .i32 :=
  View.ld (Val := Elt Ideal) (e' := .i32) x1 (Rect.unit (s := S144x128) (k0_off2 k) S1x128.size (k0_off2_inb k))
/-- The two rows of index words. -/
def ib0 (x2 : Vec Ideal S2x128 .i32) : Vec Ideal S1x128 .i32 := View.ld (Val := Elt Ideal) (e' := .i32) x2 (Rect.unit (s := S2x128) ![0, 0] S1x128.size inb_S2x128_S1x128_0_0)
def ib1 (x2 : Vec Ideal S2x128 .i32) : Vec Ideal S1x128 .i32 := View.ld (Val := Elt Ideal) (e' := .i32) x2 (Rect.unit (s := S2x128) ![1, 0] S1x128.size inb_S2x128_S1x128_1_0)

/-- A block's scale and codes, and the three words the loop's trip reads into its outputs. -/
abbrev sc (v9 : Vec Ideal S64x128 .bf16) (v12 : Vec Ideal S1x128 .i32) : FVec Ideal S64x128 .bf16 := k0_pay11 (k0_pay7 v9 v12) (k0_pay9 (k0_pay7 v9 v12) (k0_pay8 v9 v12) 32#32) 2#32
abbrev cd (v9 : Vec Ideal S64x128 .bf16) (v12 : Vec Ideal S1x128 .i32) : FVec Ideal S64x128 .fp8e4m3 := k0_pay12 (k0_pay6 v9 v12) (k0_pay7 v9 v12) (k0_pay9 (k0_pay7 v9 v12) (k0_pay8 v9 v12) 32#32) 2#32
abbrev R1 (k : Fin k0_t1_loop.trips) : Rect S64x18432 := Rect.unit (s := S64x18432) (k0_off1 k) S64x128.size (k0_off1_inb k)
abbrev R5 : Rect S64x144 := Rect.unit (s := S64x144) ![0, 0] S64x144.size inb_S64x144_S64x144_0_0
abbrev R7a : Rect S64x256 := Rect.unit (s := S64x256) ![0, 0] S64x128.size inb_S64x256_S64x128_0_0
abbrev R7b : Rect S64x256 := Rect.unit (s := S64x256) ![0, 128] S64x128.size inb_S64x256_S64x128_0_128
abbrev v0L : IVec S64x144 32 := iota .tc S64x144 32 [1] iota_S64x144_d1_w32

set_option maxRecDepth 16384 in
set_option maxHeartbeats 1000000 in
/-- What trip `k` stores. -/
theorem trip_eq (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole) (x0 : Vec Ideal S64x18432 .bf16) (x1 : Vec Ideal S144x128 .i32) (x2 : Vec Ideal S2x128 .i32) (v0) (k : Fin k0_t1_loop.trips) (f4 f5 f6 f7) :
  tripL_k0_t1 (F := Ideal) Variants.none c none i arg1 harg1 arg2 harg2 arg3 harg3 arg4 harg4 arg5 harg5 arg6 harg6 arg7 harg7 v0 (harg1.unread x0) (harg2.unread x1) (harg3.unread x2) k f4 f5 f6 f7 =
    ([⟨R1 k, cd (xb x0 k) (kb x1 k)⟩],
     [⟨R5, k0_pay14 v0 (Scf.iv 0#32 1#32 k) (sc (xb x0 k) (kb x1 k)) (View.ld (Val := Elt Ideal) (e' := .f32) (arg5.view.read (Elt Ideal) f5) R5)⟩],
     [⟨R1 k, k0_pay13 (sc (xb x0 k) (kb x1 k)) (cd (xb x0 k) (kb x1 k))⟩],
     [⟨R7b, k0_pay4 (Scf.iv 0#32 1#32 k) (k0_pay5 (xb x0 k)) (ib1 x2) (View.ld (Val := Elt Ideal) (e' := .bf16) (arg7.view.read (Elt Ideal) f7) R7b)⟩,
      ⟨R7a, k0_pay3 (k0_pay16 (F := Ideal) (Scf.iv 0#32 1#32 k) (ib0 x2)) (k0_pay17 (Scf.iv 0#32 1#32 k) (k0_pay5 (xb x0 k)) (ib0 x2)) ((View.ld (Val := Elt Ideal) (e' := .bf16) (arg7.view.read (Elt Ideal) f7) R7a))⟩]) := by
  unfold tripL_k0_t1 trip_k0_t1
  dsimp only
  sl_unfold_words
  simp only [View.readAt_eq_ld]
  rw [harg1.read_unread x0, harg2.read_unread x1, harg3.read_unread x2]
  rfl

theorem xb_apply (x0 : Vec Ideal S64x18432 .bf16) (k : Fin k0_t1_loop.trips) (r : Fin 64) (l : Fin 128) : xb x0 k (ix2 r l) = at2 64 18432 x0 r.val (128 * k.val + l.val) := by
  have hk := lt_of_lt_of_eq k.isLt trips_eq
  have hl := l.isLt
  rw [at2_of x0 r.isLt (by omega : 128 * k.val + l.val < 18432)]
  unfold xb
  apply View.ld_unit_apply_of
  intro a
  refine Eq.trans ?_ (congrArg (fun z => z + _) (congrFun (off1_eq k) a).symm)
  match a with
  | ⟨0, _⟩ => show r.val = 0 + r.val; omega
  | ⟨1, _⟩ => rfl

theorem kb_apply (x1 : Vec Ideal S144x128 .i32) (k : Fin k0_t1_loop.trips) (l : Fin 128) : kb x1 k (ix2 0 l) = wat 144 128 x1 k.val l.val := by
  have hk := lt_of_lt_of_eq k.isLt trips_eq
  rw [show wat 144 128 x1 k.val l.val = _ from wat_ix x1 ⟨k.val, hk⟩ l]
  unfold kb
  apply View.ld_unit_apply_of
  intro a
  refine Eq.trans ?_ (congrArg (fun z => z + _) (congrFun (off2_eq k) a).symm)
  match a with
  | ⟨0, _⟩ => rfl
  | ⟨1, _⟩ => show l.val = 0 + l.val; omega

theorem ib0_apply (x2 : Vec Ideal S2x128 .i32) (l : Fin 128) : ib0 x2 (ix2 0 l) = wat 2 128 x2 0 l.val := by
  rw [show wat 2 128 x2 0 l.val = _ from wat_ix x2 0 l]
  unfold ib0
  apply View.ld_unit_apply_of
  intro a
  match a with
  | ⟨0, _⟩ => rfl
  | ⟨1, _⟩ => show l.val = 0 + l.val; omega
theorem ib1_apply (x2 : Vec Ideal S2x128 .i32) (l : Fin 128) : ib1 x2 (ix2 0 l) = wat 2 128 x2 1 l.val := by
  rw [show wat 2 128 x2 1 l.val = _ from wat_ix x2 1 l]
  unfold ib1
  apply View.ld_unit_apply_of
  intro a
  match a with
  | ⟨0, _⟩ => rfl
  | ⟨1, _⟩ => show l.val = 0 + l.val; omega

/-- The kept channels of the row block, by row and column. -/
abbrev gk (x0 : Vec Ideal S64x18432 .bf16) (x1 : Vec Ideal S144x128 .i32) : ℕ → ℕ → EReal := keepOf (at2 64 18432 x0) (wat 144 128 x1)

theorem kept_apply (x0 : Vec Ideal S64x18432 .bf16) (x1 : Vec Ideal S144x128 .i32) (k : Fin k0_t1_loop.trips) (r : Fin 64) (l : Fin 128) :
    k0_pay6 (F := Ideal) (xb x0 k) (kb x1 k) (ix2 r l) = gk x0 x1 r.val (128 * k.val + l.val) := by
  rw [pay6_apply, xb_apply, kb_apply]
  unfold gk keepOf
  have hl := l.isLt
  rw [show (128 * k.val + l.val) / 128 = k.val by omega, show (128 * k.val + l.val) % 128 = l.val by omega]

end Cert.QuantXIdeal.Val
-- ==== Proof.QxLoop.lean ====
module
public import proofs.«01_k».proof.Proof.QxTrip
@[expose] public section
noncomputable section
/-! The stores of the loop, by induction on its trips: the codes, the values they stand for and the scales. -/
namespace Cert.QuantXIdeal.Val
open Idealize.ShloMosaic Idealize.ShloMosaic.TcCoe Idealize.ShloMosaic.Tactic Idealize.SL.Sem
open Cert.QuantXIdeal Cert.QuantXIdeal.Gen
open Cert.Lin
variable (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole) (x0 : Vec Ideal S64x18432 .bf16) (x1 : Vec Ideal S144x128 .i32) (x2 : Vec Ideal S2x128 .i32)
  (f4 : BufTy.Contents (Elt Ideal) arg4.view.ty) (f5 : BufTy.Contents (Elt Ideal) arg5.view.ty) (f6 : BufTy.Contents (Elt Ideal) arg6.view.ty) (f7 : BufTy.Contents (Elt Ideal) arg7.view.ty)

theorem hz2 : (![0, 0] : Fin 2 → Nat) = fun _ => 0 := funext fun a => by fin_cases a <;> rfl

/-- The stores of the first `n + 1` trips: trip `n`'s, then those before it. -/
theorem pb_succ (k : Fin k0_t1_loop.trips) : (pb_k0_t1 (F := Ideal) Variants.none c none i arg1 harg1 arg2 harg2 arg3 harg3 arg4 harg4 arg5 harg5 arg6 harg6 arg7 harg7 v0L (harg1.unread x0) (harg2.unread x1) (harg3.unread x2) f4 f5 f6 f7 (k.val + 1)) = (
    ⟨R1 k, cd (xb x0 k) (kb x1 k)⟩ :: (pb_k0_t1 (F := Ideal) Variants.none c none i arg1 harg1 arg2 harg2 arg3 harg3 arg4 harg4 arg5 harg5 arg6 harg6 arg7 harg7 v0L (harg1.unread x0) (harg2.unread x1) (harg3.unread x2) f4 f5 f6 f7 k.val).1,
    ⟨R5, k0_pay14 v0L (Scf.iv 0#32 1#32 k) (sc (xb x0 k) (kb x1 k)) (View.ld (Val := Elt Ideal) (e' := .f32) (arg5.view.read (Elt Ideal) (arg5.view.writes (Elt Ideal) f5 (pb_k0_t1 (F := Ideal) Variants.none c none i arg1 harg1 arg2 harg2 arg3 harg3 arg4 harg4 arg5 harg5 arg6 harg6 arg7 harg7 v0L (harg1.unread x0) (harg2.unread x1) (harg3.unread x2) f4 f5 f6 f7 k.val).2.1)) R5)⟩ :: (pb_k0_t1 (F := Ideal) Variants.none c none i arg1 harg1 arg2 harg2 arg3 harg3 arg4 harg4 arg5 harg5 arg6 harg6 arg7 harg7 v0L (harg1.unread x0) (harg2.unread x1) (harg3.unread x2) f4 f5 f6 f7 k.val).2.1,
    ⟨R1 k, k0_pay13 (sc (xb x0 k) (kb x1 k)) (cd (xb x0 k) (kb x1 k))⟩ :: (pb_k0_t1 (F := Ideal) Variants.none c none i arg1 harg1 arg2 harg2 arg3 harg3 arg4 harg4 arg5 harg5 arg6 harg6 arg7 harg7 v0L (harg1.unread x0) (harg2.unread x1) (harg3.unread x2) f4 f5 f6 f7 k.val).2.2.1,
    ⟨R7b, k0_pay4 (Scf.iv 0#32 1#32 k) (k0_pay5 (xb x0 k)) (ib1 x2) (View.ld (Val := Elt Ideal) (e' := .bf16) (arg7.view.read (Elt Ideal) (arg7.view.writes (Elt Ideal) f7 (pb_k0_t1 (F := Ideal) Variants.none c none i arg1 harg1 arg2 harg2 arg3 harg3 arg4 harg4 arg5 harg5 arg6 harg6 arg7 harg7 v0L (harg1.unread x0) (harg2.unread x1) (harg3.unread x2) f4 f5 f6 f7 k.val).2.2.2)) R7b)⟩ ::
    ⟨R7a, k0_pay3 (k0_pay16 (F := Ideal) (Scf.iv 0#32 1#32 k) (ib0 x2)) (k0_pay17 (Scf.iv 0#32 1#32 k) (k0_pay5 (xb x0 k)) (ib0 x2)) ((View.ld (Val := Elt Ideal) (e' := .bf16) (arg7.view.read (Elt Ideal) (arg7.view.writes (Elt Ideal) f7 (pb_k0_t1 (F := Ideal) Variants.none c none i arg1 harg1 arg2 harg2 arg3 harg3 arg4 harg4 arg5 harg5 arg6 harg6 arg7 harg7 v0L (harg1.unread x0) (harg2.unread x1) (harg3.unread x2) f4 f5 f6 f7 k.val).2.2.2)) R7a))⟩ :: (pb_k0_t1 (F := Ideal) Variants.none c none i arg1 harg1 arg2 harg2 arg3 harg3 arg4 harg4 arg5 harg5 arg6 harg6 arg7 harg7 v0L (harg1.unread x0) (harg2.unread x1) (harg3.unread x2) f4 f5 f6 f7 k.val).2.2.2) := by
  refine (pb_k0_t1_succ (F := Ideal) Variants.none c none i arg1 harg1 arg2 harg2 arg3 harg3 arg4 harg4 arg5 harg5 arg6 harg6 arg7 harg7 v0L (harg1.unread x0) (harg2.unread x1) (harg3.unread x2) f4 f5 f6 f7 k).trans ?_
  rw [trip_eq]
  rfl

/-- A column of block `k` sits at its place in the array. -/
theorem emb1 (k : Fin k0_t1_loop.trips) (r : Fin 64) (l : Fin 128) (h : 128 * k.val + l.val < 18432) : (R1 k).emb (ix2 r l) = ix2 r ⟨128 * k.val + l.val, h⟩ := by
  funext a
  refine Fin.ext ?_
  show k0_off1 k a + 1 * (ix2 r l a).val = _
  rw [Nat.one_mul]
  refine Eq.trans (congrArg (fun z => z + _) (congrFun (off1_eq k) a)) ?_
  match a with
  | ⟨0, _⟩ => show 0 + r.val = r.val; omega
  | ⟨1, _⟩ => rfl

/-- The codes of the row block, and the values they stand for. -/
def codesB : Vec Ideal S64x18432 .fp8e4m3 := fun y => codeOf (gk x0 x1) (y 0).val (y 1).val
def deqB : Vec Ideal S64x18432 .bf16 := fun y => deqOf (gk x0 x1) (y 0).val (y 1).val

/-- Every store of codes is the codes at its place. -/
theorem codes_pieces (n : ℕ) (hn : n ≤ 144) : ∀ p ∈ (pb_k0_t1 (F := Ideal) Variants.none c none i arg1 harg1 arg2 harg2 arg3 harg3 arg4 harg4 arg5 harg5 arg6 harg6 arg7 harg7 v0L (harg1.unread x0) (harg2.unread x1) (harg3.unread x2) f4 f5 f6 f7 n).1, ∀ x, p.2 x = codesB x0 x1 (p.1.emb x) := by
  induction n with
  | zero => intro p hp; cases hp
  | succ n ih =>
    have hk : n < k0_t1_loop.trips := by rw [trips_eq]; omega
    have e := congrArg Prod.fst (pb_succ c i arg1 harg1 arg2 harg2 arg3 harg3 arg4 harg4 arg5 harg5 arg6 harg6 arg7 harg7 x0 x1 x2 f4 f5 f6 f7 ⟨n, hk⟩)
    dsimp only at e
    rw [e]
    intro p hp x
    rcases List.mem_cons.mp hp with rfl | hp
    · obtain ⟨r, l, rfl⟩ : ∃ (r : Fin 64) (l : Fin 128), x = ix2 r l := ⟨x 0, x 1, eq_ix2 x⟩
      have hl := l.isLt
      refine Eq.trans (pay12_apply (xb x0 ⟨n, hk⟩) (kb x1 ⟨n, hk⟩) (gk x0 x1) r r.val n (fun l => kept_apply x0 x1 ⟨n, hk⟩ r l) l) ?_
      exact (congrArg (codesB x0 x1) (emb1 ⟨n, hk⟩ r l (by show 128 * n + l.val < 18432; omega))).symm
    · exact ih (by omega) p hp x

theorem deq_pieces (n : ℕ) (hn : n ≤ 144) : ∀ p ∈ (pb_k0_t1 (F := Ideal) Variants.none c none i arg1 harg1 arg2 harg2 arg3 harg3 arg4 harg4 arg5 harg5 arg6 harg6 arg7 harg7 v0L (harg1.unread x0) (harg2.unread x1) (harg3.unread x2) f4 f5 f6 f7 n).2.2.1, ∀ x, p.2 x = deqB x0 x1 (p.1.emb x) := by
  induction n with
  | zero => intro p hp; cases hp
  | succ n ih =>
    have hk : n < k0_t1_loop.trips := by rw [trips_eq]; omega
    have e := congrArg (fun T => T.2.2.1) (pb_succ c i arg1 harg1 arg2 harg2 arg3 harg3 arg4 harg4 arg5 harg5 arg6 harg6 arg7 harg7 x0 x1 x2 f4 f5 f6 f7 ⟨n, hk⟩)
    dsimp only at e
    rw [e]
    intro p hp x
    rcases List.mem_cons.mp hp with rfl | hp
    · obtain ⟨r, l, rfl⟩ : ∃ (r : Fin 64) (l : Fin 128), x = ix2 r l := ⟨x 0, x 1, eq_ix2 x⟩
      have hl := l.isLt
      refine Eq.trans (pay13_apply (xb x0 ⟨n, hk⟩) (kb x1 ⟨n, hk⟩) (gk x0 x1) r r.val n (fun l => kept_apply x0 x1 ⟨n, hk⟩ r l) l) ?_
      refine Eq.trans ?_ (congrArg (deqB x0 x1) (emb1 ⟨n, hk⟩ r l (by show 128 * n + l.val < 18432; omega))).symm
      show _ = deqOf (gk x0 x1) r.val (128 * n + l.val)
      unfold deqOf
      rw [show (128 * n + l.val) / 128 = n by omega]
    · exact ih (by omega) p hp x

/-- After `n` trips the first `n` lanes of the scales are found. -/
theorem scales_read (n : ℕ) (hn : n ≤ 144) (r : Fin 64) (l : Fin 144) : arg5.view.read (Elt Ideal) (arg5.view.writes (Elt Ideal) f5 (pb_k0_t1 (F := Ideal) Variants.none c none i arg1 harg1 arg2 harg2 arg3 harg3 arg4 harg4 arg5 harg5 arg6 harg6 arg7 harg7 v0L (harg1.unread x0) (harg2.unread x1) (harg3.unread x2) f4 f5 f6 f7 n).2.1) (ix2 r l)
    = if l.val < n then scaleOf (gk x0 x1) r.val l.val else arg5.view.read (Elt Ideal) f5 (ix2 r l) := by
  induction n with
  | zero => rfl
  | succ n ih =>
    have hk : n < k0_t1_loop.trips := by rw [trips_eq]; omega
    have e := congrArg (fun T => T.2.1) (pb_succ c i arg1 harg1 arg2 harg2 arg3 harg3 arg4 harg4 arg5 harg5 arg6 harg6 arg7 harg7 x0 x1 x2 f4 f5 f6 f7 ⟨n, hk⟩)
    dsimp only at e
    rw [e]
    refine (View.read_writes_cons_unit_of_mem arg5.view f5 inb_S64x144_S64x144_0_0 _ _ (ix2 r l) (ix2 r l) rfl ?_).trans ?_
    · intro a
      match a with
      | ⟨0, _⟩ => show r.val = 0 + r.val; omega
      | ⟨1, _⟩ => show l.val = 0 + l.val; omega
    rw [View.ld_unit_zero (S := S64x144) hz2]
    refine (pay14_apply (xb x0 ⟨n, hk⟩) (kb x1 ⟨n, hk⟩) (gk x0 x1) r r.val n (fun l => kept_apply x0 x1 ⟨n, hk⟩ r l) _ _ l).trans ?_
    rw [ih (by omega), iv_nat n (by omega)]
    have hl := l.isLt
    have hq : BitVec.ofNat 32 l.val = BitVec.ofNat 32 n ↔ l.val = n := by
      constructor
      · intro h
        have h := congrArg BitVec.toNat h
        rw [BitVec.toNat_ofNat, BitVec.toNat_ofNat] at h
        omega
      · intro h; rw [h]
    by_cases h : l.val = n
    · rw [if_pos (hq.mpr h), if_pos (by omega), h]
    · rw [if_neg fun q => h (hq.mp q)]
      by_cases h' : l.val < n
      · rw [if_pos h', if_pos (by omega)]
      · rw [if_neg h', if_neg (by omega)]

end Cert.QuantXIdeal.Val
-- ==== Proof.QxLoopPick.lean ====
module
public import proofs.«01_k».proof.Proof.QxLoop
@[expose] public section
noncomputable section
/-! The gathered columns, by induction on the trips of the loop. -/
namespace Cert.QuantXIdeal.Val
open Idealize.ShloMosaic Idealize.ShloMosaic.TcCoe Idealize.ShloMosaic.Tactic Idealize.SL.Sem
open Cert.QuantXIdeal Cert.QuantXIdeal.Gen
open Cert.Lin
variable (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole) (x0 : Vec Ideal S64x18432 .bf16) (x1 : Vec Ideal S144x128 .i32) (x2 : Vec Ideal S2x128 .i32)
  (f4 : BufTy.Contents (Elt Ideal) arg4.view.ty) (f5 : BufTy.Contents (Elt Ideal) arg5.view.ty) (f6 : BufTy.Contents (Elt Ideal) arg6.view.ty) (f7 : BufTy.Contents (Elt Ideal) arg7.view.ty)

/-- What is held after one more block was looked at. -/
theorem pick_succ (X : ℕ → EReal) (w n : ℕ) (z : EReal) : (if 128 * n ≤ w ∧ w < 128 * n + 128 then X w else if w < 128 * n then X w else z) = if w < 128 * (n + 1) then X w else z := by
  by_cases h : w < 128 * n
  · rw [if_neg (by omega), if_pos h, if_pos (by omega)]
  · by_cases h' : w < 128 * n + 128
    · rw [if_pos ⟨by omega, h'⟩, if_pos (by omega)]
    · rw [if_neg (by omega), if_neg h, if_neg (by omega)]

theorem ite_r {p : Prop} [Decidable p] (x : EReal) {y y' : EReal} (h : y = y') : (if p then x else y) = if p then x else y' := by rw [h]

theorem pay5_eq (v9 : Vec Ideal S64x128 .bf16) : k0_pay5 (F := Ideal) v9 = v9 := by
  unfold k0_pay5
  exact shapeCast_self _ _

theorem inb7 (o : ℕ) (ho : o + 128 ≤ 256) : ∀ a, (![0, o] : Fin 2 → ℕ) a + (![64, 128] : Fin 2 → ℕ) a ≤ S64x256.size a := by
  intro a
  match a with
  | ⟨0, _⟩ => show 0 + 64 ≤ 64; omega
  | ⟨1, _⟩ => show o + 128 ≤ 256; omega

/-- After `n` trips a gathered column whose index lies below `128 n` is found. -/
theorem picks_read (n : ℕ) (hn : n ≤ 144) (r : Fin 64) (j : Fin 256) : arg7.view.read (Elt Ideal) (arg7.view.writes (Elt Ideal) f7 (pb_k0_t1 (F := Ideal) Variants.none c none i arg1 harg1 arg2 harg2 arg3 harg3 arg4 harg4 arg5 harg5 arg6 harg6 arg7 harg7 v0L (harg1.unread x0) (harg2.unread x1) (harg3.unread x2) f4 f5 f6 f7 n).2.2.2) (ix2 r j)
    = if (wat 2 128 x2 (j.val / 128) (j.val % 128)).toNat < 128 * n then at2 64 18432 x0 r.val (wat 2 128 x2 (j.val / 128) (j.val % 128)).toNat else arg7.view.read (Elt Ideal) f7 (ix2 r j) := by
  induction n with
  | zero => rfl
  | succ n ih =>
    have hk : n < k0_t1_loop.trips := by rw [trips_eq]; omega
    have e := congrArg (fun T => T.2.2.2) (pb_succ c i arg1 harg1 arg2 harg2 arg3 harg3 arg4 harg4 arg5 harg5 arg6 harg6 arg7 harg7 x0 x1 x2 f4 f5 f6 f7 ⟨n, hk⟩)
    dsimp only at e
    rw [e, pay5_eq, iv_nat n (by omega)]
    have hj := j.isLt
    have ih := ih (by omega)
    generalize (pb_k0_t1 (F := Ideal) Variants.none c none i arg1 harg1 arg2 harg2 arg3 harg3 arg4 harg4 arg5 harg5 arg6 harg6 arg7 harg7 v0L (harg1.unread x0) (harg2.unread x1) (harg3.unread x2) f4 f5 f6 f7 n).2.2.2 = Q at ih
    by_cases h : j.val < 128
    · refine (View.read_writes_cons_unit_of_not_mem arg7.view f7 inb_S64x256_S64x128_0_128 _ _ (ix2 r j) rfl 1 (Or.inl ?_)).trans ?_
      · show j.val < 128; exact h
      refine (View.read_writes_cons_unit_of_mem arg7.view f7 inb_S64x256_S64x128_0_0 _ _ (ix2 r j) (ix2 r ⟨j.val, h⟩) rfl ?_).trans ?_
      · intro a
        match a with
        | ⟨0, _⟩ => show r.val = 0 + r.val; omega
        | ⟨1, _⟩ => show j.val = 0 + j.val; omega
      refine (pay3_apply n (by omega) (xb x0 ⟨n, hk⟩) (ib0 x2) _ (at2 64 18432 x0) r ⟨j.val, h⟩ r.val (fun l => xb_apply x0 ⟨n, hk⟩ r l)).trans ?_
      rw [ib0_apply, ← pick_succ]
      rw [show j.val / 128 = 0 by omega, show j.val % 128 = j.val by omega] at ih ⊢
      rw [← ih]
      refine ite_r _ ?_
      apply View.ld_unit_apply_of
      intro a
      match a with
      | ⟨0, _⟩ => show r.val = 0 + r.val; omega
      | ⟨1, _⟩ => show j.val = 0 + j.val; omega
    · have hl : j.val - 128 < 128 := by omega
      refine (View.read_writes_cons_unit_of_mem arg7.view f7 inb_S64x256_S64x128_0_128 _ _ (ix2 r j) (ix2 r ⟨j.val - 128, hl⟩) rfl ?_).trans ?_
      · intro a
        match a with
        | ⟨0, _⟩ => show r.val = 0 + r.val; omega
        | ⟨1, _⟩ => show j.val = 128 + (j.val - 128); omega
      refine (pay4_apply n (by omega) (xb x0 ⟨n, hk⟩) (ib1 x2) _ (at2 64 18432 x0) r ⟨j.val - 128, hl⟩ r.val (fun l => xb_apply x0 ⟨n, hk⟩ r l)).trans ?_
      rw [ib1_apply, ← pick_succ]
      rw [show j.val / 128 = 1 by omega, show j.val % 128 = j.val - 128 by omega] at ih ⊢
      rw [← ih]
      refine ite_r _ ?_
      apply View.ld_unit_apply_of
      intro a
      match a with
      | ⟨0, _⟩ => show r.val = 0 + r.val; omega
      | ⟨1, _⟩ => show j.val = 128 + (j.val - 128); omega

end Cert.QuantXIdeal.Val
-- ==== Proof.QxOut.lean ====
module
public import proofs.«01_k».proof.Proof.QxLoopPick
public import proofs.«01_k».proof.Proof.QxFrame
@[expose] public section
noncomputable section
/-! What one grid point of the quantising call leaves in its four output blocks. -/
namespace Cert.QuantXIdeal.Val
open Idealize.ShloMosaic Idealize.ShloMosaic.TcCoe Idealize.ShloMosaic.Tactic Idealize.SL.Sem
open Cert.QuantXIdeal Cert.QuantXIdeal.Gen
open Cert.Lin
variable (c : Dev nD) (i : grid0.Coords) (arg1 : Memref sig .tc .vmem S64x18432 .bf16) (harg1 : arg1.IsWhole) (arg2 : Memref sig .tc .vmem S144x128 .i32) (harg2 : arg2.IsWhole) (arg3 : Memref sig .tc .vmem S2x128 .i32) (harg3 : arg3.IsWhole) (arg4 : Memref sig .tc .vmem S64x18432 .fp8e4m3) (harg4 : arg4.IsWhole) (arg5 : Memref sig .tc .vmem S64x144 .f32) (harg5 : arg5.IsWhole) (arg6 : Memref sig .tc .vmem S64x18432 .bf16) (harg6 : arg6.IsWhole) (arg7 : Memref sig .tc .vmem S64x256 .bf16) (harg7 : arg7.IsWhole) (x0 : Vec Ideal S64x18432 .bf16) (x1 : Vec Ideal S144x128 .i32) (x2 : Vec Ideal S2x128 .i32)
/-- The stores before the loop: both blocks set to 0. -/
def z5 : List (View.Piece (Elt Ideal) S64x144 .f32) := [⟨Rect.unit ![0, 0] ![64, 144] inb_S64x144_S64x144_0_0, k0_pay2 (F := Ideal)⟩]
def z7 : List (View.Piece (Elt Ideal) S64x256 .bf16) := [⟨Rect.unit ![0, 0] ![64, 256] inb_S64x256_S64x256_0_0, k0_pay1 (F := Ideal)⟩]

theorem run3 : (kernelRun0_A (F := Ideal) c i arg1 harg1 arg2 harg2 arg3 harg3 arg4 harg4 arg5 harg5 arg6 harg6 arg7 harg7 x0 x1 x2).1 = (pb_k0_t1 (F := Ideal) Variants.none c none i arg1 harg1 arg2 harg2 arg3 harg3 arg4 harg4 arg5 harg5 arg6 harg6 arg7 harg7 v0L (harg1.unread x0) (harg2.unread x1) (harg3.unread x2) arg4.view.junk (arg5.view.writes (Elt Ideal) arg5.view.junk z5) arg6.view.junk (arg7.view.writes (Elt Ideal) arg7.view.junk z7) k0_t1_loop.trips).1 := by
  unfold kernelRun0_A
  dsimp only
  rfl
theorem run4 : (kernelRun0_A (F := Ideal) c i arg1 harg1 arg2 harg2 arg3 harg3 arg4 harg4 arg5 harg5 arg6 harg6 arg7 harg7 x0 x1 x2).2.1 = (pb_k0_t1 (F := Ideal) Variants.none c none i arg1 harg1 arg2 harg2 arg3 harg3 arg4 harg4 arg5 harg5 arg6 harg6 arg7 harg7 v0L (harg1.unread x0) (harg2.unread x1) (harg3.unread x2) arg4.view.junk (arg5.view.writes (Elt Ideal) arg5.view.junk z5) arg6.view.junk (arg7.view.writes (Elt Ideal) arg7.view.junk z7) k0_t1_loop.trips).2.1 ++ z5 := by
  unfold kernelRun0_A
  dsimp only
  rfl
theorem run5 : (kernelRun0_A (F := Ideal) c i arg1 harg1 arg2 harg2 arg3 harg3 arg4 harg4 arg5 harg5 arg6 harg6 arg7 harg7 x0 x1 x2).2.2.1 = (pb_k0_t1 (F := Ideal) Variants.none c none i arg1 harg1 arg2 harg2 arg3 harg3 arg4 harg4 arg5 harg5 arg6 harg6 arg7 harg7 v0L (harg1.unread x0) (harg2.unread x1) (harg3.unread x2) arg4.view.junk (arg5.view.writes (Elt Ideal) arg5.view.junk z5) arg6.view.junk (arg7.view.writes (Elt Ideal) arg7.view.junk z7) k0_t1_loop.trips).2.2.1 := by
  unfold kernelRun0_A
  dsimp only
  rfl
theorem run6 : (kernelRun0_A (F := Ideal) c i arg1 harg1 arg2 harg2 arg3 harg3 arg4 harg4 arg5 harg5 arg6 harg6 arg7 harg7 x0 x1 x2).2.2.2.1 = (pb_k0_t1 (F := Ideal) Variants.none c none i arg1 harg1 arg2 harg2 arg3 harg3 arg4 harg4 arg5 harg5 arg6 harg6 arg7 harg7 v0L (harg1.unread x0) (harg2.unread x1) (harg3.unread x2) arg4.view.junk (arg5.view.writes (Elt Ideal) arg5.view.junk z5) arg6.view.junk (arg7.view.writes (Elt Ideal) arg7.view.junk z7) k0_t1_loop.trips).2.2.2 ++ z7 := by
  unfold kernelRun0_A
  dsimp only
  rfl

theorem out3_apply (r : Fin 64) (n : Fin 18432) : out0_A_3 (F := Ideal) c i arg1 harg1 arg2 harg2 arg3 harg3 arg4 harg4 arg5 harg5 arg6 harg6 arg7 harg7 x0 x1 x2 (ix2 r n) = codeOf (gk x0 x1) r.val n.val := by
  unfold out0_A_3
  rw [View.read_writes_eq_canon VO0_3 _ _ (cover0_A_3 c i arg1 harg1 arg2 harg2 arg3 harg3 arg4 harg4 arg5 harg5 arg6 harg6 arg7 harg7 x0 x1 x2)]
  refine View.canon_apply_of_pieces (codesB x0 x1) _ ?_ (ix2 r n) (cover0_A_3 c i arg1 harg1 arg2 harg2 arg3 harg3 arg4 harg4 arg5 harg5 arg6 harg6 arg7 harg7 x0 x1 x2 (ix2 r n))
  rw [run3]
  exact codes_pieces c i arg1 harg1 arg2 harg2 arg3 harg3 arg4 harg4 arg5 harg5 arg6 harg6 arg7 harg7 x0 x1 x2 arg4.view.junk (arg5.view.writes (Elt Ideal) arg5.view.junk z5) arg6.view.junk (arg7.view.writes (Elt Ideal) arg7.view.junk z7) k0_t1_loop.trips (le_of_eq trips_eq)

theorem out5_apply (r : Fin 64) (n : Fin 18432) : out0_A_5 (F := Ideal) c i arg1 harg1 arg2 harg2 arg3 harg3 arg4 harg4 arg5 harg5 arg6 harg6 arg7 harg7 x0 x1 x2 (ix2 r n) = deqOf (gk x0 x1) r.val n.val := by
  unfold out0_A_5
  rw [View.read_writes_eq_canon VO0_5 _ _ (cover0_A_5 c i arg1 harg1 arg2 harg2 arg3 harg3 arg4 harg4 arg5 harg5 arg6 harg6 arg7 harg7 x0 x1 x2)]
  refine View.canon_apply_of_pieces (deqB x0 x1) _ ?_ (ix2 r n) (cover0_A_5 c i arg1 harg1 arg2 harg2 arg3 harg3 arg4 harg4 arg5 harg5 arg6 harg6 arg7 harg7 x0 x1 x2 (ix2 r n))
  rw [run5]
  exact deq_pieces c i arg1 harg1 arg2 harg2 arg3 harg3 arg4 harg4 arg5 harg5 arg6 harg6 arg7 harg7 x0 x1 x2 arg4.view.junk (arg5.view.writes (Elt Ideal) arg5.view.junk z5) arg6.view.junk (arg7.view.writes (Elt Ideal) arg7.view.junk z7) k0_t1_loop.trips (le_of_eq trips_eq)

theorem out4_apply (r : Fin 64) (b : Fin 144) : out0_A_4 (F := Ideal) c i arg1 harg1 arg2 harg2 arg3 harg3 arg4 harg4 arg5 harg5 arg6 harg6 arg7 harg7 x0 x1 x2 (ix2 r b) = scaleOf (gk x0 x1) r.val b.val := by
  unfold out0_A_4
  rw [View.read_writes_eq_canon VO0_4 _ _ (cover0_A_4 c i arg1 harg1 arg2 harg2 arg3 harg3 arg4 harg4 arg5 harg5 arg6 harg6 arg7 harg7 x0 x1 x2), ← View.read_writes_eq_canon arg5.view arg5.view.junk _ (cover0_A_4 c i arg1 harg1 arg2 harg2 arg3 harg3 arg4 harg4 arg5 harg5 arg6 harg6 arg7 harg7 x0 x1 x2), run4, View.writes_append]
  refine (scales_read c i arg1 harg1 arg2 harg2 arg3 harg3 arg4 harg4 arg5 harg5 arg6 harg6 arg7 harg7 x0 x1 x2 arg4.view.junk (arg5.view.writes (Elt Ideal) arg5.view.junk z5) arg6.view.junk (arg7.view.writes (Elt Ideal) arg7.view.junk z7) k0_t1_loop.trips (le_of_eq trips_eq) r b).trans ?_
  exact if_pos (lt_of_lt_of_eq b.isLt trips_eq.symm)

/-- Before the loop the gathered columns are 0. -/
theorem zero7 (r : Fin 64) (j : Fin 256) : arg7.view.read (Elt Ideal) (arg7.view.writes (Elt Ideal) arg7.view.junk z7) (ix2 r j) = (0 : EReal) := by
  unfold z7
  refine (View.read_writes_cons_unit_of_mem arg7.view arg7.view.junk inb_S64x256_S64x256_0_0 _ _ (ix2 r j) (ix2 r j) rfl ?_).trans ?_
  · intro a
    match a with
    | ⟨0, _⟩ => show r.val = 0 + r.val; omega
    | ⟨1, _⟩ => show j.val = 0 + j.val; omega
  · unfold k0_pay1
    pointwise

theorem out6_apply (r : Fin 64) (j : Fin 256) : out0_A_6 (F := Ideal) c i arg1 harg1 arg2 harg2 arg3 harg3 arg4 harg4 arg5 harg5 arg6 harg6 arg7 harg7 x0 x1 x2 (ix2 r j) = pickOf (at2 64 18432 x0) (wat 2 128 x2) r.val j.val := by
  unfold out0_A_6
  rw [View.read_writes_eq_canon VO0_6 _ _ (cover0_A_6 c i arg1 harg1 arg2 harg2 arg3 harg3 arg4 harg4 arg5 harg5 arg6 harg6 arg7 harg7 x0 x1 x2), ← View.read_writes_eq_canon arg7.view arg7.view.junk _ (cover0_A_6 c i arg1 harg1 arg2 harg2 arg3 harg3 arg4 harg4 arg5 harg5 arg6 harg6 arg7 harg7 x0 x1 x2), run6, View.writes_append]
  refine (picks_read c i arg1 harg1 arg2 harg2 arg3 harg3 arg4 harg4 arg5 harg5 arg6 harg6 arg7 harg7 x0 x1 x2 arg4.view.junk (arg5.view.writes (Elt Ideal) arg5.view.junk z5) arg6.view.junk (arg7.view.writes (Elt Ideal) arg7.view.junk z7) k0_t1_loop.trips (le_of_eq trips_eq) r j).trans ?_
  rw [zero7, trips_eq]
  exact (pickOf_of _ rfl).symm

end Cert.QuantXIdeal.Val
-- ==== Proof.QxArr.lean ====
module
public import proofs.«01_k».proof.Proof.QxOut
@[expose] public section
noncomputable section
/-! The four arrays of the quantising call, as formulas over its arguments. -/
namespace Cert.QuantXIdeal.Val
open Idealize.ShloMosaic Idealize.ShloMosaic.TcCoe Idealize.ShloMosaic.Tactic Idealize.SL.Sem
open Cert.QuantXIdeal Cert.QuantXIdeal.Gen
open Cert.Lin
variable (m : (ℓ : Loc nD τ sig) → Buf (Elt Ideal) ℓ) (c : Dev nD)

/-- The mask and the index words the host makes from the outlier channels: -1 with a 0 at every outlier channel, and the outlier
    channels followed by -1. -/
def keepW (z : S208.Idx → BitVec 32) : S18432.Idx → BitVec 32 :=
  Host.scatter scatter_S18432_S208x1_S208_n_0_0_1 (fun _ b => b) (broadcastInDim S18432 ![] bcast_S_S18432 (constantI S_ 32 4294967295#32))
    (broadcastInDim S208x1 ![0] bcast_S208_S208x1_0 (select (cmpi .slt z (broadcastInDim S208 ![] bcast_S_S208 (constantI S_ 32 0#32))) (addi z (broadcastInDim S208 ![] bcast_S_S208 (constantI S_ 32 18432#32))) z))
    (broadcastInDim S208 ![] bcast_S_S208 (constantI S_ 32 0#32))
def idxW (z : S208.Idx → BitVec 32) : S256.Idx → BitVec 32 :=
  Host.scatter scatter_S256_S1_S208_0_n_0_0 (fun _ b => b) (broadcastInDim S256 ![] bcast_S_S256 (constantI S_ 32 4294967295#32))
    (broadcastInDim S1 ![] bcast_S_S1 (constantI S_ 32 0#32)) z

/-- The operands, by row and column: the activation, the mask of kept channels and the index words; and the kept channels. -/
def aX : ℕ → ℕ → EReal := at2 8192 18432 (shapeCast S8192x18432 (m ((c : Thread nD τ).loc main_arg0)) shapeCasts_S2x4096x18432_S8192x18432)
abbrev kW : S144x128.Idx → BitVec 32 := shapeCast S144x128 (keepW (m ((c : Thread nD τ).loc main_arg1))) shapeCasts_S18432_S144x128
abbrev iW : S2x128.Idx → BitVec 32 := shapeCast S2x128 (idxW (m ((c : Thread nD τ).loc main_arg1))) shapeCasts_S256_S2x128
def aK : ℕ → ℕ → BitVec 32 := wat 144 128 (kW m c)
def aI : ℕ → ℕ → BitVec 32 := wat 2 128 (iW m c)
def fV : ℕ → ℕ → EReal := keepOf (aX m c) (aK m c)

theorem idx0 : ∀ t : Fin cfg0.N, win0_0.index t = ![t.val, 0] := (by decide +kernel : ∀ t : Fin grid0.N, _)
theorem idx1 : ∀ (t : Fin cfg0.N) (a : Fin 2), win0_1.index t a = 0 := (by decide +kernel : ∀ (t : Fin grid0.N) (a : Fin 2), _)
theorem idx2 : ∀ (t : Fin cfg0.N) (a : Fin 2), win0_2.index t a = 0 := (by decide +kernel : ∀ (t : Fin grid0.N) (a : Fin 2), _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem V0 : V m c main_v0 = shapeCast S8192x18432 (m ((c : Thread nD τ).loc main_arg0)) shapeCasts_S2x4096x18432_S8192x18432 := by
  entry_read; rfl

theorem iblk0 (t : Fin cfg0.N) (r : Fin 64) (n : Fin 18432) : iblk m c 0 t (ix2 r n) = aX m c (64 * t.val + r.val) n.val := by
  have ht : t.val < 128 := t.isLt
  have hr := r.isLt
  unfold iblk aX
  blk_simp
  rw [at2_of _ (by omega : 64 * t.val + r.val < 8192) n.isLt, ← V0]
  refine congrArg (V m c main_v0) (funext fun a => Fin.ext ?_)
  refine (Pipeline.Window.rect_emb_val win0_0 t (ix2 r n) a).trans ?_
  rw [idx0]
  match a with
  | ⟨0, _⟩ => show t.val * 64 + r.val = 64 * t.val + r.val; omega
  | ⟨1, _⟩ => show 0 * 18432 + n.val = n.val; omega
theorem iblk1 (t : Fin cfg0.N) : (iblk m c 1 t : S144x128.Idx → BitVec 32) = kW m c := by
  refine Eq.trans (b := V m c main_v14) (funext fun y => ?_) ?_
  · unfold iblk
    blk_simp
    exact congrArg (V m c main_v14) (funext fun a => Fin.ext (Pipeline.Window.rect_emb_val_of_index_zero win0_1 t a (idx1 t a) y))
  · entry_read; rfl
theorem iblk2 (t : Fin cfg0.N) : (iblk m c 2 t : S2x128.Idx → BitVec 32) = iW m c := by
  refine Eq.trans (b := V m c main_v4) (funext fun y => ?_) ?_
  · unfold iblk
    blk_simp
    exact congrArg (V m c main_v4) (funext fun a => Fin.ext (Pipeline.Window.rect_emb_val_of_index_zero win0_2 t a (idx2 t a) y))
  · entry_read; rfl

/-- Row `r` of point `t`'s block of the activation is row `64 t + r` of the activation. -/
theorem row0 (t : Fin cfg0.N) (r : Fin 64) : at2 64 18432 (iblk m c 0 t) r.val = aX m c (64 * t.val + r.val) := by
  funext n
  by_cases hn : n < 18432
  · exact (at2_ix (iblk m c 0 t) r ⟨n, hn⟩).trans (iblk0 m c t r ⟨n, hn⟩)
  · rw [at2_col _ (by omega)]
    unfold aX
    rw [at2_col _ (by omega)]
theorem rowK (t : Fin cfg0.N) (r : Fin 64) : gk (iblk m c 0 t) (iblk m c 1 t) r.val = fV m c (64 * t.val + r.val) := by
  unfold gk fV aK
  rw [iblk1]
  exact keepOf_row (row0 m c t r) _

/-- The four arrays the call writes. -/
def G3 : Vec Ideal S8192x18432 .fp8e4m3 := fun i => codeOf (fV m c) (i 0).val (i 1).val
def G4 : Vec Ideal S8192x144 .f32 := fun i => scaleOf (fV m c) (i 0).val (i 1).val
def G5 : Vec Ideal S8192x18432 .bf16 := fun i => deqOf (fV m c) (i 0).val (i 1).val
def G6 : Vec Ideal S8192x256 .bf16 := fun i => pickOf (aX m c) (aI m c) (i 0).val (i 1).val

theorem emb3 (t : Fin cfg0.N) (r : Fin 64) (n : Fin 18432) : G3 m c ((win0_3.rect t).emb (ix2 r n)) = codeOf (fV m c) (64 * t.val + r.val) n.val := by
  have e0 : ((win0_3.rect t).emb (ix2 r n) 0 : ℕ) = 64 * t.val + r.val := by
    refine (Pipeline.Window.rect_emb_val win0_3 t (ix2 r n) 0).trans ?_
    rw [idx3]
    show t.val * 64 + r.val = 64 * t.val + r.val
    omega
  have e1 : ((win0_3.rect t).emb (ix2 r n) 1 : ℕ) = n.val := by
    refine (Pipeline.Window.rect_emb_val win0_3 t (ix2 r n) 1).trans ?_
    rw [idx3]
    show 0 * 18432 + n.val = n.val
    omega
  unfold G3
  rw [e0, e1]
theorem blk3 (t : Fin cfg0.N) (r : Fin 64) (n : Fin 18432) : (outsAt0 m c t).1 (ix2 r n) = codeOf (fV m c) (64 * t.val + r.val) n.val := by
  unfold outsAt0
  dsimp only
  rw [out3_apply]
  exact codeOf_row (rowK m c t r) n.val
theorem arr3 : (dats m 0 c).arrAt 3 cfg0.N = G3 m c := by
  refine (dats m 0 c).arrAt_eq_of_covers 3 _ (by decide +kernel) fun t hf y => ?_
  blk_simp
  rw [after0_3]
  obtain ⟨r, n, rfl⟩ : ∃ (r : Fin 64) (n : Fin 18432), y = ix2 r n := ⟨y 0, y 1, eq_ix2 y⟩
  exact (blk3 m c t r n).trans (emb3 m c t r n).symm

theorem emb4 (t : Fin cfg0.N) (r : Fin 64) (n : Fin 144) : G4 m c ((win0_4.rect t).emb (ix2 r n)) = scaleOf (fV m c) (64 * t.val + r.val) n.val := by
  have e0 : ((win0_4.rect t).emb (ix2 r n) 0 : ℕ) = 64 * t.val + r.val := by
    refine (Pipeline.Window.rect_emb_val win0_4 t (ix2 r n) 0).trans ?_
    rw [idx4]
    show t.val * 64 + r.val = 64 * t.val + r.val
    omega
  have e1 : ((win0_4.rect t).emb (ix2 r n) 1 : ℕ) = n.val := by
    refine (Pipeline.Window.rect_emb_val win0_4 t (ix2 r n) 1).trans ?_
    rw [idx4]
    show 0 * 144 + n.val = n.val
    omega
  unfold G4
  rw [e0, e1]
theorem blk4 (t : Fin cfg0.N) (r : Fin 64) (n : Fin 144) : (outsAt0 m c t).2.1 (ix2 r n) = scaleOf (fV m c) (64 * t.val + r.val) n.val := by
  unfold outsAt0
  dsimp only
  rw [out4_apply]
  exact scaleOf_row (rowK m c t r) n.val
theorem arr4 : (dats m 0 c).arrAt 4 cfg0.N = G4 m c := by
  refine (dats m 0 c).arrAt_eq_of_covers 4 _ (by decide +kernel) fun t hf y => ?_
  blk_simp
  rw [after0_4]
  obtain ⟨r, n, rfl⟩ : ∃ (r : Fin 64) (n : Fin 144), y = ix2 r n := ⟨y 0, y 1, eq_ix2 y⟩
  exact (blk4 m c t r n).trans (emb4 m c t r n).symm

theorem emb5 (t : Fin cfg0.N) (r : Fin 64) (n : Fin 18432) : G5 m c ((win0_5.rect t).emb (ix2 r n)) = deqOf (fV m c) (64 * t.val + r.val) n.val := by
  have e0 : ((win0_5.rect t).emb (ix2 r n) 0 : ℕ) = 64 * t.val + r.val := by
    refine (Pipeline.Window.rect_emb_val win0_5 t (ix2 r n) 0).trans ?_
    rw [idx5]
    show t.val * 64 + r.val = 64 * t.val + r.val
    omega
  have e1 : ((win0_5.rect t).emb (ix2 r n) 1 : ℕ) = n.val := by
    refine (Pipeline.Window.rect_emb_val win0_5 t (ix2 r n) 1).trans ?_
    rw [idx5]
    show 0 * 18432 + n.val = n.val
    omega
  unfold G5
  rw [e0, e1]
theorem blk5 (t : Fin cfg0.N) (r : Fin 64) (n : Fin 18432) : (outsAt0 m c t).2.2.1 (ix2 r n) = deqOf (fV m c) (64 * t.val + r.val) n.val := by
  unfold outsAt0
  dsimp only
  rw [out5_apply]
  exact deqOf_row (rowK m c t r) n.val
theorem arr5 : (dats m 0 c).arrAt 5 cfg0.N = G5 m c := by
  refine (dats m 0 c).arrAt_eq_of_covers 5 _ (by decide +kernel) fun t hf y => ?_
  blk_simp
  rw [after0_5]
  obtain ⟨r, n, rfl⟩ : ∃ (r : Fin 64) (n : Fin 18432), y = ix2 r n := ⟨y 0, y 1, eq_ix2 y⟩
  exact (blk5 m c t r n).trans (emb5 m c t r n).symm

theorem emb6 (t : Fin cfg0.N) (r : Fin 64) (n : Fin 256) : G6 m c ((win0_6.rect t).emb (ix2 r n)) = pickOf (aX m c) (aI m c) (64 * t.val + r.val) n.val := by
  have e0 : ((win0_6.rect t).emb (ix2 r n) 0 : ℕ) = 64 * t.val + r.val := by
    refine (Pipeline.Window.rect_emb_val win0_6 t (ix2 r n) 0).trans ?_
    rw [idx6]
    show t.val * 64 + r.val = 64 * t.val + r.val
    omega
  have e1 : ((win0_6.rect t).emb (ix2 r n) 1 : ℕ) = n.val := by
    refine (Pipeline.Window.rect_emb_val win0_6 t (ix2 r n) 1).trans ?_
    rw [idx6]
    show 0 * 256 + n.val = n.val
    omega
  unfold G6
  rw [e0, e1]
theorem blk6 (t : Fin cfg0.N) (r : Fin 64) (n : Fin 256) : (outsAt0 m c t).2.2.2 (ix2 r n) = pickOf (aX m c) (aI m c) (64 * t.val + r.val) n.val := by
  unfold outsAt0
  dsimp only
  rw [out6_apply]
  unfold aI
  rw [iblk2]
  exact pickOf_row (row0 m c t r) _ n.val
theorem arr6 : (dats m 0 c).arrAt 6 cfg0.N = G6 m c := by
  refine (dats m 0 c).arrAt_eq_of_covers 6 _ (by decide +kernel) fun t hf y => ?_
  blk_simp
  rw [after0_6]
  obtain ⟨r, n, rfl⟩ : ∃ (r : Fin 64) (n : Fin 256), y = ix2 r n := ⟨y 0, y 1, eq_ix2 y⟩
  exact (blk6 m c t r n).trans (emb6 m c t r n).symm

end Cert.QuantXIdeal.Val
-- ==== Proof.QrVal.lean ====
module
public import proofs.«01_k».proof.Proof.QxSpec
public import proofs.«01_k».proof.Proof.Gen.QuantReferenceIdeal.Value
public import Idealize.ShloMosaic.Lib.Claim
public import Idealize.ShloMosaic.Lib.Pipeline.ValueKit
@[expose] public section
noncomputable section
/-! The values the quantising call's reference computes, element by element. -/
namespace Cert.QuantReferenceIdeal.Val
open Idealize.ShloMosaic Idealize.ShloMosaic.TcCoe Idealize.ShloMosaic.Tactic Idealize.SL.Sem
open Cert.QuantReferenceIdeal Cert.QuantReferenceIdeal.Gen
open Cert.Lin
variable (x0 : Vec Ideal S8192x18432 .bf16) (x1 : Vec Ideal S1x18432 .i32) (x2 : Vec Ideal S1x256 .i32)

/-- The kept channels, by row and column. -/
abbrev fk : ℕ → ℕ → EReal := keepOf (at2 8192 18432 x0) (fun q p => wat 1 18432 x1 0 (128 * q + p))

theorem pay4_apply (R : Fin 8192) (b : Fin 144) (l : Fin 128) : k0_pay4 (F := Ideal) x0 x1 (ix3 R b l) = fk x0 x1 R.val (128 * b.val + l.val) := by
  unfold k0_pay4 k0_pay3
  have hb := b.isLt
  have hl := l.isLt
  pointwise
  have hw : wat 1 18432 x1 0 (128 * ((128 * b.val + l.val) / 128) + (128 * b.val + l.val) % 128) = x1 (ix2 0 ⟨128 * b.val + l.val, by omega⟩) := by
    rw [show 128 * ((128 * b.val + l.val) / 128) + (128 * b.val + l.val) % 128 = 128 * b.val + l.val by omega]
    exact wat_ix x1 0 ⟨128 * b.val + l.val, by omega⟩
  unfold fk
  rw [keepOf_of _ hw, at2_of x0 R.isLt (by omega : 128 * b.val + l.val < 18432)]
  rw [show (⟨b.val * 128 + l.val, by omega⟩ : Fin 18432) = ⟨128 * b.val + l.val, by omega⟩ from Fin.ext (by show b.val * 128 + l.val = 128 * b.val + l.val; omega)]
  unfold Scalar.select IntOp.cmpi
  by_cases h : x1 (ix2 0 ⟨128 * b.val + l.val, by omega⟩) = 0#32
  · rw [if_neg (not_not.mpr h), h]; rfl
  · have hq : (x1 (ix2 0 ⟨128 * b.val + l.val, by omega⟩) != 0#32) = true := by simpa using h
    rw [if_pos h]
    simp only [hq]
    rfl

/-- The greatest magnitude of each block. -/
abbrev amaxR (z : FVec Ideal S8192x144x128 .f32) : FVec Ideal S8192x144 .f32 := multiReduction .maximumf [2] S8192x144 (absf z) 0xFF800000#32 reduces_S8192x144x128_S8192x144 (.inl rfl) rfl
theorem amaxR_apply (R : Fin 8192) (b : Fin 144) : amaxR (k0_pay4 (F := Ideal) x0 x1) (ix2 R b) = amax (fk x0 x1) R.val b.val := by
  have h := fun l => pay4_apply x0 x1 R b l
  generalize k0_pay4 (F := Ideal) x0 x1 = z at h ⊢
  pointwise
  simp only [h, f32_bot]
  rfl

/-- The exponent of each block's scale. -/
def expV (a : FVec Ideal S8192x144 .f32) (c1 c2 : Ideal .f32) : FVec Ideal S8192x144 .f32 :=
  select (cmpf .oeq a (broadcast S8192x144 (Scalar.ofBits .f32 0x00000000#32))) (broadcast S8192x144 (Scalar.ofBits .f32 0x00000000#32))
    (minimumf (broadcast S8192x144 (Scalar.ofBits .f32 0x42FC0000#32)) (maximumf (broadcast S8192x144 (Scalar.ofBits .f32 0xC2FC0000#32))
      (addf (floor (divf (log (mulf a (broadcast S8192x144 c1))) (broadcast S8192x144 c2))) (broadcast S8192x144 (Scalar.ofBits .f32 0x3F800000#32)))))
theorem expV_apply (a : FVec Ideal S8192x144 .f32) (c1 c2 : Ideal .f32) (R : Fin 8192) (b : Fin 144) : expV a c1 c2 (ix2 R b)
    = if a (ix2 R b) = 0 then 0 else min (Scalar.ofBits .f32 0x42FC0000#32 : Ideal .f32) (max (Scalar.ofBits .f32 0xC2FC0000#32 : Ideal .f32) (Ideal.liftRound Int.floor (Ideal.div (Ideal.log (a (ix2 R b) * c1)) c2) + 1)) := by
  unfold expV
  pointwise
theorem pay5_eq : k0_pay5 (F := Ideal) x0 x1 = expV (amaxR (k0_pay4 x0 x1)) (Named.named κ "inv448" 0x3B124925#32) (Named.named κ "ln2" 0x3F317218#32) := by
  unfold k0_pay5
  rfl
theorem named448 : Named.named (F := Ideal) (φ := .f32) κ "inv448" 0x3B124925#32 = ((1 / 448 : ℝ) : EReal) := rfl
theorem namedLn2 : Named.named (F := Ideal) (φ := .f32) κ "ln2" 0x3F317218#32 = ((Real.log 2 : ℝ) : EReal) := rfl
theorem pay5_apply (R : Fin 8192) (b : Fin 144) : k0_pay5 (F := Ideal) x0 x1 (ix2 R b) = expR (amax (fk x0 x1) R.val b.val) := by
  rw [pay5_eq, expV_apply, named448, namedLn2, amaxR_apply]
  unfold expR
  rw [← f32_126, ← f32_neg126]
  rfl

theorem exp2_gen (z : FVec Ideal S8192x144 .f32) (R : Fin 8192) (b : Fin 144) : exp2 z (ix2 R b) = Ideal.exp2 (z (ix2 R b)) := rfl
theorem pay6_eq : k0_pay6 (F := Ideal) x0 x1 = exp2 (k0_pay5 x0 x1) := by
  unfold k0_pay6
  rfl
theorem pay6_apply (R : Fin 8192) (b : Fin 144) : k0_pay6 (F := Ideal) x0 x1 (ix2 R b) = scaleOf (fk x0 x1) R.val b.val := by
  rw [pay6_eq, exp2_gen, pay5_apply]
  unfold scaleOf
  exact Eq.refl _

/-- The codes of scaled blocks. -/
def codeV (z : FVec Ideal S8192x144x128 .f32) (e : FVec Ideal S8192x144 .f32) : FVec Ideal S8192x18432 .fp8e4m3 :=
  shapeCast S8192x18432 (truncf .fp8e4m3 (minimumf (broadcast S8192x144x128 (Scalar.ofBits .f32 0x43E00000#32)) (maximumf (broadcast S8192x144x128 (Scalar.ofBits .f32 0xC3E00000#32))
    (mulf z (broadcastTo S8192x144x128 (shapeCast S8192x144x1 (exp2 (subf (broadcast S8192x144 (Scalar.ofBits .f32 0x00000000#32)) e)) shapeCasts_S8192x144_S8192x144x1) broadcasts_S8192x144x1_S8192x144x128)))) bitsLt_fp8e4m3_f32) shapeCasts_S8192x144x128_S8192x18432
theorem codeV_apply (z : FVec Ideal S8192x144x128 .f32) (e : FVec Ideal S8192x144 .f32) (R : Fin 8192) (C : Fin 18432) (B : Fin 144) (l : Fin 128) (hC : C.val = 128 * B.val + l.val) :
    codeV z e (ix2 R C) = min ((448 : ℝ) : EReal) (max ((-448 : ℝ) : EReal) (z (ix3 R B l) * Ideal.exp2 (0 - e (ix2 R B)))) := by
  unfold codeV
  pointwise
  rw [f32_448, f32_neg448]
  have hB := B.isLt
  have hl := l.isLt
  rw [show (⟨C.val / 128, by have := C.isLt; omega⟩ : Fin 144) = B from Fin.ext (by show C.val / 128 = B.val; omega),
    show (⟨C.val % 128, Nat.mod_lt _ (by decide)⟩ : Fin 128) = l from Fin.ext (by show C.val % 128 = l.val; omega)]
  rfl
theorem pay7_eq : k0_pay7 (F := Ideal) x0 x1 = codeV (k0_pay4 x0 x1) (k0_pay5 x0 x1) := by
  unfold k0_pay7
  rfl
theorem pay7_apply (R : Fin 8192) (C : Fin 18432) : k0_pay7 (F := Ideal) x0 x1 (ix2 R C) = codeOf (fk x0 x1) R.val C.val := by
  have hC := C.isLt
  have hd : 128 * (C.val / 128) + C.val % 128 = C.val := by omega
  rw [pay7_eq, codeV_apply _ _ R C ⟨C.val / 128, by omega⟩ ⟨C.val % 128, Nat.mod_lt _ (by decide)⟩ hd.symm, pay4_apply, pay5_apply]
  unfold codeOf
  dsimp only
  rw [hd]

/-- The values the codes stand for. -/
theorem pay1_gen (c : FVec Ideal S8192x18432 .fp8e4m3) (s : FVec Ideal S8192x144 .f32) (R : Fin 8192) (C : Fin 18432) (B : Fin 144) (hB : B.val = C.val / 128) :
    k0_pay1 (F := Ideal) s c (ix2 R C) = (c (ix2 R C) * s (ix2 R B) : EReal) := by
  unfold k0_pay1
  pointwise
  rw [show (⟨C.val / 128, by have := C.isLt; omega⟩ : Fin 144) = B from Fin.ext hB.symm]
theorem pay1_apply (R : Fin 8192) (C : Fin 18432) : k0_pay1 (F := Ideal) (k0_pay6 x0 x1) (k0_pay7 x0 x1) (ix2 R C) = deqOf (fk x0 x1) R.val C.val := by
  have hC := C.isLt
  rw [pay1_gen _ _ R C ⟨C.val / 128, by omega⟩ rfl, pay7_apply, pay6_apply]
  exact Eq.refl _

/-- A product with a 0-1 matrix whose column has its 1 where the row number equals the index word. -/
theorem hot_sum (X : ℕ → EReal) (w : BitVec 32) : ∑ d : Fin 18432, X d.val * FloatOps.sitofp (F := Ideal) .f32 (BitVec.setWidth 32 (IntOp.cmpi .eq (BitVec.ofNat 32 d.val) w)) = if w.toNat < 18432 then X w.toNat else 0 := by
  have hs : ∀ d : Fin 18432, X d.val * FloatOps.sitofp (F := Ideal) .f32 (BitVec.setWidth 32 (IntOp.cmpi .eq (BitVec.ofNat 32 d.val) w)) = if d.val = w.toNat then X d.val else 0 := by
    intro d
    have hd := d.isLt
    have hw : BitVec.ofNat 32 d.val = w ↔ d.val = w.toNat := by
      constructor
      · intro h
        have h := congrArg BitVec.toNat h
        rw [BitVec.toNat_ofNat] at h
        omega
      · intro h
        apply BitVec.eq_of_toNat_eq
        rw [BitVec.toNat_ofNat]
        omega
    show X d.val * (((BitVec.setWidth 32 (IntOp.cmpi .eq (BitVec.ofNat 32 d.val) w)).toInt : ℝ) : EReal) = _
    have hc : IntOp.cmpi .eq (BitVec.ofNat 32 d.val) w = BitVec.ofBool (BitVec.ofNat 32 d.val == w) := rfl
    rw [hc]
    by_cases h : d.val = w.toNat
    · rw [if_pos h, hw.mpr h, beq_self_eq_true]
      show X d.val * (((1 : ℤ) : ℝ) : EReal) = _
      rw [Int.cast_one, EReal.coe_one, mul_one]
    · have hb : (BitVec.ofNat 32 d.val == w) = false := by
        rw [beq_eq_false_iff_ne]
        exact fun q => h (hw.mp q)
      rw [if_neg h, hb]
      show X d.val * (((0 : ℤ) : ℝ) : EReal) = _
      rw [Int.cast_zero, EReal.coe_zero, mul_zero]
  rw [Finset.sum_congr rfl fun d _ => hs d]
  by_cases h : w.toNat < 18432
  · rw [if_pos h, Finset.sum_eq_single (⟨w.toNat, h⟩ : Fin 18432)]
    · exact if_pos rfl
    · intro d _ hd
      exact if_neg fun q => hd (Fin.ext q)
    · intro q; exact absurd (Finset.mem_univ _) q
  · rw [if_neg h]
    refine Finset.sum_eq_zero fun d _ => if_neg fun q => h ?_
    have := d.isLt
    omega

theorem pay2_apply (R : Fin 8192) (j : Fin 256) : k0_pay2 (F := Ideal) (k0_pay3 x0) x2 (ix2 R j) = pickOf (at2 8192 18432 x0) (fun q p => wat 1 256 x2 0 (128 * q + p)) R.val j.val := by
  unfold k0_pay2 k0_pay3
  simp only [shapeCast_self]
  pointwise
  have hj := j.isLt
  have hw : wat 1 256 x2 0 (128 * (j.val / 128) + j.val % 128) = x2 (ix2 0 j) := by
    rw [show 128 * (j.val / 128) + j.val % 128 = j.val by omega]
    exact wat_ix x2 0 j
  rw [pickOf_of _ hw]
  refine Eq.trans (Finset.sum_congr rfl fun d _ => ?_) (hot_sum (at2 8192 18432 x0 R.val) (x2 (ix2 0 j)))
  rw [at2_ix]
end Cert.QuantReferenceIdeal.Val
-- ==== Proof.QrArr.lean ====
module
public import proofs.«01_k».proof.Proof.QrVal
@[expose] public section
noncomputable section
/-! The four arrays of the quantising call's reference. -/
namespace Cert.QuantReferenceIdeal.Val
open Idealize.ShloMosaic Idealize.ShloMosaic.TcCoe Idealize.ShloMosaic.Tactic Idealize.SL.Sem
open Cert.QuantReferenceIdeal Cert.QuantReferenceIdeal.Gen
open Cert.Lin
variable (x0 : Vec Ideal S8192x18432 .bf16) (x1 : Vec Ideal S1x18432 .i32) (x2 : Vec Ideal S1x256 .i32)
theorem hz2 : (![0, 0] : Fin 2 → Nat) = fun _ => 0 := funext fun a => by fin_cases a <;> rfl

/-- What the reference stores: the codes, the scales, the values the codes stand for, and the columns picked out. -/
theorem out0_3_eq : out0_3 x0 x1 x2 = k0_pay7 (F := Ideal) x0 x1 := by
  unfold_out out0_3
  rw [View.canon_unit_zero hz2, View.ld_unit_zero (S := S8192x18432) hz2, View.ld_unit_zero (S := S1x18432) hz2]
theorem out0_4_eq : out0_4 x0 x1 x2 = k0_pay6 (F := Ideal) x0 x1 := by
  unfold_out out0_4
  rw [View.canon_unit_zero hz2, View.ld_unit_zero (S := S8192x18432) hz2, View.ld_unit_zero (S := S1x18432) hz2]
theorem out0_5_eq : out0_5 x0 x1 x2 = k0_pay1 (F := Ideal) (k0_pay6 x0 x1) (k0_pay7 x0 x1) := by
  unfold_out out0_5
  rw [View.canon_unit_zero hz2, View.ld_unit_zero (S := S8192x18432) hz2, View.ld_unit_zero (S := S1x18432) hz2]
theorem out0_6_eq : out0_6 x0 x1 x2 = k0_pay2 (F := Ideal) (k0_pay3 x0) x2 := by
  unfold_out out0_6
  rw [View.canon_unit_zero hz2, View.ld_unit_zero (S := S8192x18432) hz2]
  exact congrArg (k0_pay2 (F := Ideal) (k0_pay3 x0)) (View.ld_unit_zero (S := S1x256) hz2 _ _)

variable (m : (ℓ : Loc nD τ sig) → Buf (Elt Ideal) ℓ) (c : Dev nD)

/-- The mask and the index words the host makes from the outlier channels: -1 with a 0 at every outlier channel, and the outlier
    channels followed by -1. -/
def keepW (z : S208.Idx → BitVec 32) : S18432.Idx → BitVec 32 :=
  Host.scatter scatter_S18432_S208x1_S208_n_0_0_1 (fun _ b => b) (broadcastInDim S18432 ![] bcast_S_S18432 (constantI S_ 32 4294967295#32))
    (broadcastInDim S208x1 ![0] bcast_S208_S208x1_0 (select (cmpi .slt z (broadcastInDim S208 ![] bcast_S_S208 (constantI S_ 32 0#32))) (addi z (broadcastInDim S208 ![] bcast_S_S208 (constantI S_ 32 18432#32))) z))
    (broadcastInDim S208 ![] bcast_S_S208 (constantI S_ 32 0#32))
def idxW (z : S208.Idx → BitVec 32) : S256.Idx → BitVec 32 :=
  Host.scatter scatter_S256_S1_S208_0_n_0_0 (fun _ b => b) (broadcastInDim S256 ![] bcast_S_S256 (constantI S_ 32 4294967295#32))
    (broadcastInDim S1 ![] bcast_S_S1 (constantI S_ 32 0#32)) z

/-- The reference's operands: the activation with its first two axes as one, the mask and the index words each as one row. -/
abbrev op0 : S8192x18432.Idx → EReal := shapeCast S8192x18432 (m ((c : Thread nD τ).loc main_arg0)) shapeCasts_S2x4096x18432_S8192x18432
abbrev op1 : S1x18432.Idx → BitVec 32 := shapeCast S1x18432 (keepW (m ((c : Thread nD τ).loc main_arg1))) shapeCasts_S18432_S1x18432
abbrev op2 : S1x256.Idx → BitVec 32 := shapeCast S1x256 (idxW (m ((c : Thread nD τ).loc main_arg1))) shapeCasts_S256_S1x256
theorem iblk0 (t : Fin cfg0.N) : (iblk m c 0 t : S8192x18432.Idx → EReal) = op0 m c := by
  refine Eq.trans (b := V m c main_v12) (funext fun y => ?_) ?_
  · unfold iblk
    blk_simp
    exact congrArg (V m c main_v12) (funext fun a => Fin.ext (Pipeline.Window.rect_emb_val_of_index_zero win0_0 t a rfl y))
  · entry_read; rfl
theorem iblk1 (t : Fin cfg0.N) : (iblk m c 1 t : S1x18432.Idx → BitVec 32) = op1 m c := by
  refine Eq.trans (b := V m c main_v13) (funext fun y => ?_) ?_
  · unfold iblk
    blk_simp
    exact congrArg (V m c main_v13) (funext fun a => Fin.ext (Pipeline.Window.rect_emb_val_of_index_zero win0_1 t a rfl y))
  · entry_read; rfl
theorem iblk2 (t : Fin cfg0.N) : (iblk m c 2 t : S1x256.Idx → BitVec 32) = op2 m c := by
  refine Eq.trans (b := V m c main_v14) (funext fun y => ?_) ?_
  · unfold iblk
    blk_simp
    exact congrArg (V m c main_v14) (funext fun a => Fin.ext (Pipeline.Window.rect_emb_val_of_index_zero win0_2 t a rfl y))
  · entry_read; rfl

theorem arr3 : (dats m 0 c).arrAt 3 cfg0.N = k0_pay7 (F := Ideal) (op0 m c) (op1 m c) := by
  refine (dats m 0 c).arrAt_eq_of_covers 3 _ (by decide +kernel) fun t hf y => ?_
  blk_simp
  rw [after0_3, out0_3_eq, iblk0, iblk1]
  exact congrArg (k0_pay7 (F := Ideal) (op0 m c) (op1 m c)) (funext fun a => Fin.ext (Pipeline.Window.rect_emb_val_of_index_zero win0_3 t a rfl y).symm)

theorem arr4 : (dats m 0 c).arrAt 4 cfg0.N = k0_pay6 (F := Ideal) (op0 m c) (op1 m c) := by
  refine (dats m 0 c).arrAt_eq_of_covers 4 _ (by decide +kernel) fun t hf y => ?_
  blk_simp
  rw [after0_4, out0_4_eq, iblk0, iblk1]
  exact congrArg (k0_pay6 (F := Ideal) (op0 m c) (op1 m c)) (funext fun a => Fin.ext (Pipeline.Window.rect_emb_val_of_index_zero win0_4 t a rfl y).symm)

theorem arr5 : (dats m 0 c).arrAt 5 cfg0.N = k0_pay1 (F := Ideal) (k0_pay6 (op0 m c) (op1 m c)) (k0_pay7 (op0 m c) (op1 m c)) := by
  refine (dats m 0 c).arrAt_eq_of_covers 5 _ (by decide +kernel) fun t hf y => ?_
  blk_simp
  rw [after0_5, out0_5_eq, iblk0, iblk1]
  exact congrArg (k0_pay1 (F := Ideal) (k0_pay6 (op0 m c) (op1 m c)) (k0_pay7 (op0 m c) (op1 m c))) (funext fun a => Fin.ext (Pipeline.Window.rect_emb_val_of_index_zero win0_5 t a rfl y).symm)

theorem arr6 : (dats m 0 c).arrAt 6 cfg0.N = k0_pay2 (F := Ideal) (k0_pay3 (op0 m c)) (op2 m c) := by
  refine (dats m 0 c).arrAt_eq_of_covers 6 _ (by decide +kernel) fun t hf y => ?_
  blk_simp
  rw [after0_6, out0_6_eq, iblk0, iblk2]
  exact congrArg (k0_pay2 (F := Ideal) (k0_pay3 (op0 m c)) (op2 m c)) (funext fun a => Fin.ext (Pipeline.Window.rect_emb_val_of_index_zero win0_6 t a rfl y).symm)

end Cert.QuantReferenceIdeal.Val
-- ==== Proof.QAgree.lean ====
module
public import proofs.«01_k».proof.Proof.QxArr
public import proofs.«01_k».proof.Proof.QrArr
@[expose] public section
noncomputable section
/-! The quantising call and its reference give the same four arrays. -/
namespace Cert.QAgree
open Idealize.ShloMosaic Idealize.ShloMosaic.TcCoe Idealize.ShloMosaic.Tactic Idealize.SL.Sem
open Cert.Lin
variable (m : (ℓ : Loc QuantXIdeal.nD QuantXIdeal.τ QuantXIdeal.sig) → Buf (Elt Ideal) ℓ) (m' : (ℓ : Loc QuantReferenceIdeal.nD QuantReferenceIdeal.τ QuantReferenceIdeal.sig) → Buf (Elt Ideal) ℓ) (c : Dev QuantXIdeal.nD)

/-- The two programs are run on the same arguments. -/
abbrev Same : Prop := m' ((c.tc : Thread Cert.QuantReferenceIdeal.nD Cert.QuantReferenceIdeal.τ).loc Cert.QuantReferenceIdeal.main_arg0) = m ((c.tc : Thread Cert.QuantXIdeal.nD Cert.QuantXIdeal.τ).loc Cert.QuantXIdeal.main_arg0)
    ∧ m' ((c.tc : Thread Cert.QuantReferenceIdeal.nD Cert.QuantReferenceIdeal.τ).loc Cert.QuantReferenceIdeal.main_arg1) = m ((c.tc : Thread Cert.QuantXIdeal.nD Cert.QuantXIdeal.τ).loc Cert.QuantXIdeal.main_arg1)

theorem aX_eq (h : m' ((c.tc : Thread Cert.QuantReferenceIdeal.nD Cert.QuantReferenceIdeal.τ).loc Cert.QuantReferenceIdeal.main_arg0) = m ((c.tc : Thread Cert.QuantXIdeal.nD Cert.QuantXIdeal.τ).loc Cert.QuantXIdeal.main_arg0)) : QuantXIdeal.Val.aX m c = at2 8192 18432 (QuantReferenceIdeal.Val.op0 m' c) :=
  (congrArg (fun z : QuantXIdeal.S2x4096x18432.Idx → EReal => at2 8192 18432 (shapeCast QuantXIdeal.S8192x18432 z QuantXIdeal.Gen.shapeCasts_S2x4096x18432_S8192x18432)) h).symm

/-- The two hosts make the same mask and the same index words. -/
theorem keepW_eq (h : m' ((c.tc : Thread Cert.QuantReferenceIdeal.nD Cert.QuantReferenceIdeal.τ).loc Cert.QuantReferenceIdeal.main_arg1) = m ((c.tc : Thread Cert.QuantXIdeal.nD Cert.QuantXIdeal.τ).loc Cert.QuantXIdeal.main_arg1)) : QuantReferenceIdeal.Val.keepW (m' ((c.tc : Thread Cert.QuantReferenceIdeal.nD Cert.QuantReferenceIdeal.τ).loc Cert.QuantReferenceIdeal.main_arg1)) = QuantXIdeal.Val.keepW (m ((c.tc : Thread Cert.QuantXIdeal.nD Cert.QuantXIdeal.τ).loc Cert.QuantXIdeal.main_arg1)) :=
  (congrArg QuantReferenceIdeal.Val.keepW h).trans rfl
theorem idxW_eq (h : m' ((c.tc : Thread Cert.QuantReferenceIdeal.nD Cert.QuantReferenceIdeal.τ).loc Cert.QuantReferenceIdeal.main_arg1) = m ((c.tc : Thread Cert.QuantXIdeal.nD Cert.QuantXIdeal.τ).loc Cert.QuantXIdeal.main_arg1)) : QuantReferenceIdeal.Val.idxW (m' ((c.tc : Thread Cert.QuantReferenceIdeal.nD Cert.QuantReferenceIdeal.τ).loc Cert.QuantReferenceIdeal.main_arg1)) = QuantXIdeal.Val.idxW (m ((c.tc : Thread Cert.QuantXIdeal.nD Cert.QuantXIdeal.τ).loc Cert.QuantXIdeal.main_arg1)) :=
  (congrArg QuantReferenceIdeal.Val.idxW h).trans rfl

/-- Words in rows of 128 and in one row are the same words. -/
theorem wat_row1 (z : QuantXIdeal.S18432.Idx → BitVec 32) (q p : ℕ) (hp : p < 128) :
    wat 1 18432 (shapeCast QuantReferenceIdeal.S1x18432 z QuantReferenceIdeal.Gen.shapeCasts_S18432_S1x18432) 0 (128 * q + p) = wat 144 128 (shapeCast QuantXIdeal.S144x128 z QuantXIdeal.Gen.shapeCasts_S18432_S144x128) q p := by
  by_cases hq : q < 144
  · refine (wat_ix _ 0 ⟨128 * q + p, by omega⟩).trans (Eq.trans ?_ (wat_ix _ ⟨q, hq⟩ ⟨p, hp⟩).symm)
    pointwise
    first
    | rfl
    | exact congrArg z (funext fun a => Fin.ext (by fin_cases a; first | rfl | (simp; omega)))
  · unfold wat
    rw [dif_neg (by omega), dif_neg (by omega)]
theorem wat_row2 (z : QuantXIdeal.S256.Idx → BitVec 32) (q p : ℕ) (hp : p < 128) :
    wat 1 256 (shapeCast QuantReferenceIdeal.S1x256 z QuantReferenceIdeal.Gen.shapeCasts_S256_S1x256) 0 (128 * q + p) = wat 2 128 (shapeCast QuantXIdeal.S2x128 z QuantXIdeal.Gen.shapeCasts_S256_S2x128) q p := by
  by_cases hq : q < 2
  · refine (wat_ix _ 0 ⟨128 * q + p, by omega⟩).trans (Eq.trans ?_ (wat_ix _ ⟨q, hq⟩ ⟨p, hp⟩).symm)
    pointwise
    first
    | rfl
    | exact congrArg z (funext fun a => Fin.ext (by fin_cases a; first | rfl | (simp; omega)))
  · unfold wat
    rw [dif_neg (by omega), dif_neg (by omega)]

/-- The mask, read in 144 rows of 128 words and in one row, says the same of every channel. -/
theorem keep_eq (h : m' ((c.tc : Thread Cert.QuantReferenceIdeal.nD Cert.QuantReferenceIdeal.τ).loc Cert.QuantReferenceIdeal.main_arg1) = m ((c.tc : Thread Cert.QuantXIdeal.nD Cert.QuantXIdeal.τ).loc Cert.QuantXIdeal.main_arg1)) (X : ℕ → ℕ → EReal) : keepOf X (QuantXIdeal.Val.aK m c) = keepOf X (fun q p => wat 1 18432 (QuantReferenceIdeal.Val.op1 m' c) 0 (128 * q + p)) := by
  funext r n
  have e : wat 1 18432 (QuantReferenceIdeal.Val.op1 m' c) 0 (128 * (n / 128) + n % 128) = QuantXIdeal.Val.aK m c (n / 128) (n % 128) :=
    (congrArg (fun z : QuantXIdeal.S18432.Idx → BitVec 32 => wat 1 18432 (shapeCast QuantReferenceIdeal.S1x18432 z QuantReferenceIdeal.Gen.shapeCasts_S18432_S1x18432) 0 (128 * (n / 128) + n % 128)) (keepW_eq m m' c h)).trans
      (wat_row1 _ (n / 128) (n % 128) (Nat.mod_lt _ (by decide)))
  exact (keepOf_of X rfl).trans (keepOf_of X e).symm
/-- So do the index words of every gathered column. -/
theorem pick_eq (h : m' ((c.tc : Thread Cert.QuantReferenceIdeal.nD Cert.QuantReferenceIdeal.τ).loc Cert.QuantReferenceIdeal.main_arg1) = m ((c.tc : Thread Cert.QuantXIdeal.nD Cert.QuantXIdeal.τ).loc Cert.QuantXIdeal.main_arg1)) (X : ℕ → ℕ → EReal) : pickOf X (QuantXIdeal.Val.aI m c) = pickOf X (fun q p => wat 1 256 (QuantReferenceIdeal.Val.op2 m' c) 0 (128 * q + p)) := by
  funext r n
  have e : wat 1 256 (QuantReferenceIdeal.Val.op2 m' c) 0 (128 * (n / 128) + n % 128) = QuantXIdeal.Val.aI m c (n / 128) (n % 128) :=
    (congrArg (fun z : QuantXIdeal.S256.Idx → BitVec 32 => wat 1 256 (shapeCast QuantReferenceIdeal.S1x256 z QuantReferenceIdeal.Gen.shapeCasts_S256_S1x256) 0 (128 * (n / 128) + n % 128)) (idxW_eq m m' c h)).trans
      (wat_row2 _ (n / 128) (n % 128) (Nat.mod_lt _ (by decide)))
  exact (pickOf_of X rfl).trans (pickOf_of X e).symm

theorem fk_eq (h : Same m m' c) : QuantXIdeal.Val.fV m c = QuantReferenceIdeal.Val.fk (QuantReferenceIdeal.Val.op0 m' c) (QuantReferenceIdeal.Val.op1 m' c) := by
  obtain ⟨h0, h1⟩ := h
  unfold QuantXIdeal.Val.fV QuantReferenceIdeal.Val.fk
  rw [aX_eq m m' c h0, keep_eq m m' c h1]

theorem arr3_eq (h : Same m m' c) : (QuantReferenceIdeal.Gen.dats m' 0 c).arrAt 3 QuantReferenceIdeal.cfg0.N = QuantXIdeal.Val.G3 m c := by
  rw [QuantReferenceIdeal.Val.arr3]
  funext i
  obtain ⟨R, C, rfl⟩ : ∃ (R : Fin 8192) (C : Fin 18432), i = ix2 R C := ⟨i 0, i 1, eq_ix2 i⟩
  refine (QuantReferenceIdeal.Val.pay7_apply (QuantReferenceIdeal.Val.op0 m' c) (QuantReferenceIdeal.Val.op1 m' c) R C).trans ?_
  exact congrArg (fun f => codeOf f R.val C.val) (fk_eq m m' c h).symm

theorem arr4_eq (h : Same m m' c) : (QuantReferenceIdeal.Gen.dats m' 0 c).arrAt 4 QuantReferenceIdeal.cfg0.N = QuantXIdeal.Val.G4 m c := by
  rw [QuantReferenceIdeal.Val.arr4]
  funext i
  obtain ⟨R, C, rfl⟩ : ∃ (R : Fin 8192) (C : Fin 144), i = ix2 R C := ⟨i 0, i 1, eq_ix2 i⟩
  refine (QuantReferenceIdeal.Val.pay6_apply (QuantReferenceIdeal.Val.op0 m' c) (QuantReferenceIdeal.Val.op1 m' c) R C).trans ?_
  exact congrArg (fun f => scaleOf f R.val C.val) (fk_eq m m' c h).symm

theorem arr5_eq (h : Same m m' c) : (QuantReferenceIdeal.Gen.dats m' 0 c).arrAt 5 QuantReferenceIdeal.cfg0.N = QuantXIdeal.Val.G5 m c := by
  rw [QuantReferenceIdeal.Val.arr5]
  funext i
  obtain ⟨R, C, rfl⟩ : ∃ (R : Fin 8192) (C : Fin 18432), i = ix2 R C := ⟨i 0, i 1, eq_ix2 i⟩
  refine (QuantReferenceIdeal.Val.pay1_apply (QuantReferenceIdeal.Val.op0 m' c) (QuantReferenceIdeal.Val.op1 m' c) R C).trans ?_
  exact congrArg (fun f => deqOf f R.val C.val) (fk_eq m m' c h).symm

theorem arr6_eq (h : Same m m' c) : (QuantReferenceIdeal.Gen.dats m' 0 c).arrAt 6 QuantReferenceIdeal.cfg0.N = QuantXIdeal.Val.G6 m c := by
  rw [QuantReferenceIdeal.Val.arr6]
  funext i
  obtain ⟨R, C, rfl⟩ : ∃ (R : Fin 8192) (C : Fin 256), i = ix2 R C := ⟨i 0, i 1, eq_ix2 i⟩
  refine (QuantReferenceIdeal.Val.pay2_apply (QuantReferenceIdeal.Val.op0 m' c) (QuantReferenceIdeal.Val.op2 m' c) R C).trans ?_
  show pickOf _ _ R.val C.val = pickOf (QuantXIdeal.Val.aX m c) (QuantXIdeal.Val.aI m c) R.val C.val
  rw [aX_eq m m' c h.1, pick_eq m m' c h.2]
end Cert.QAgree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.QuantX
public import proofs.«01_k».proof.Proof.Gen.QuantX.Skeleton
public import proofs.«01_k».proof.Proof.Gen.QuantX.Launch
public import proofs.«01_k».proof.Proof.Gen.QuantX.Points
public import proofs.«01_k».proof.Proof.QfFrame
public import proofs.«01_k».proof.Proof.Gen.QuantXIdeal
public import proofs.«01_k».proof.Proof.Gen.QuantXIdeal.Skeleton
public import proofs.«01_k».proof.Proof.Gen.QuantXIdeal.Launch
public import proofs.«01_k».proof.Proof.Gen.QuantXIdeal.Points
public import proofs.«01_k».proof.Proof.QxFrame
public import proofs.«01_k».proof.Proof.QxValue
public import proofs.«01_k».proof.Proof.Gen.QuantReferenceIdeal
public import proofs.«01_k».proof.Proof.Gen.QuantReferenceIdeal.Skeleton
public import proofs.«01_k».proof.Proof.Gen.QuantReferenceIdeal.Launch
public import proofs.«01_k».proof.Proof.Gen.QuantReferenceIdeal.Points
public import proofs.«01_k».proof.Proof.Gen.QuantReferenceIdeal.Frame
public import proofs.«01_k».proof.Proof.Gen.QuantReferenceIdeal.Value
public import proofs.«01_k».proof.Proof.Agree
public import proofs.«01_k».proof.Proof.QAgree
public import Idealize.ShloMosaic.Adequacy
public import Idealize.ShloMosaic.Init

@[expose] public section

noncomputable section

namespace Cert.Proof

open Idealize.ShloMosaic Idealize.SL.Sem Cert.Kernel

/-- The kernel and the reference, run on the same arguments, end with the same output, codes and scales. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => Cert.KernelIdeal.Value.G7 m c, fun c => Cert.KernelIdeal.Value.G8 m c, fun c => Cert.KernelIdeal.Value.G9 m c, Cert.KernelIdeal.Value.run m g, ?_⟩
  refine (θ_run _ _ _).mono (fun r h c => ?_) (Cert.ReferenceIdeal.Value.run_blocks m' g')
  obtain ⟨h7, h8, h9, hk⟩ := h c
  exact ⟨h7.trans (Cert.Agree.arr7_eq m m' c (hag c)), h8.trans (Cert.Agree.arr8_eq m m' c (hag c)), h9.trans (Cert.Agree.arr9_eq m m' c (hag c)), hk⟩

/-- The quantising call and its reference, run on the same arguments, end with the same codes, scales, dequantised values and
    gathered columns. -/
theorem algebraicQ : Cert.algebraic_QuantXIdeal_QuantReferenceIdeal (hQuantXIdeal := Cert.QuantXIdeal.Gen.facts) (hQuantReferenceIdeal := Cert.QuantReferenceIdeal.Gen.facts) := by
  intro m g m' g' _ hag
  refine ⟨fun c => Cert.QuantXIdeal.Val.G3 m c, fun c => Cert.QuantXIdeal.Val.G4 m c, fun c => Cert.QuantXIdeal.Val.G5 m c, fun c => Cert.QuantXIdeal.Val.G6 m c, ?_, ?_⟩
  · refine (θ_run _ _ _).mono (fun r h c => ?_) (Cert.QuantXIdeal.Value.run_blocks m g)
    obtain ⟨h3, h4, h5, h6, hk⟩ := h c
    exact ⟨h3.trans (Cert.QuantXIdeal.Val.arr3 m c), h4.trans (Cert.QuantXIdeal.Val.arr4 m c), h5.trans (Cert.QuantXIdeal.Val.arr5 m c), h6.trans (Cert.QuantXIdeal.Val.arr6 m c), hk⟩
  · refine (θ_run _ _ _).mono (fun r h c => ?_) (Cert.QuantReferenceIdeal.Value.run_blocks m' g')
    obtain ⟨h3, h4, h5, h6, hk⟩ := h c
    exact ⟨h3.trans (Cert.QAgree.arr3_eq m m' c (hag c)), h4.trans (Cert.QAgree.arr4_eq m m' c (hag c)), h5.trans (Cert.QAgree.arr5_eq m m' c (hag c)), h6.trans (Cert.QAgree.arr6_eq m m' c (hag c)), hk⟩

theorem claim : Cert.Claim := ⟨Cert.Kernel.Gen.facts, Cert.KernelIdeal.Gen.facts, Cert.ReferenceIdeal.Gen.facts, Cert.QuantX.Gen.facts, Cert.QuantXIdeal.Gen.facts, Cert.QuantReferenceIdeal.Gen.facts,
  fun m ρ _ => Cert.Kernel.Gen.frame m ρ, fun m ρ _ => Cert.KernelIdeal.Gen.frame m ρ, fun m ρ _ => Cert.ReferenceIdeal.Gen.frame m ρ,
  fun m ρ _ => Cert.QuantX.Gen.frame m ρ, fun m ρ _ => Cert.QuantXIdeal.Gen.frame m ρ, fun m ρ _ => Cert.QuantReferenceIdeal.Gen.frame m ρ,
  trivial, algebraic, trivial, algebraicQ⟩

end Cert.Proof

end
